-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_border_distinct [hPre_top_border_distinct : Cert.Pre_top_border_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_top_border_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_border_distinct [hPre_top_border_distinct : Cert.Pre_top_border_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_border_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_top_border_distinct [hKernelIdeal : Cert.KernelIdeal.Facts] [hPre_top_border_distinct : Cert.Pre_top_border_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_border_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_top_border_distinct [hReferenceIdeal : Cert.ReferenceIdeal.Facts] [hPre_top_border_distinct : Cert.Pre_top_border_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_border_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_top_border_distinct [hKernelIdeal : Cert.KernelIdeal.Facts] [hReferenceIdeal : Cert.ReferenceIdeal.Facts] [hPre_top_border_distinct : Cert.Pre_top_border_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_border_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_5) = v0 c
          ∧ r.2.mem ((c.tc : Thread Cert.ReferenceIdeal.nD Cert.ReferenceIdeal.τ).loc Cert.ReferenceIdeal.main_v16_6) = v1 c
          ∧ r.2.mem ((c.tc : Thread Cert.ReferenceIdeal.nD Cert.ReferenceIdeal.τ).loc Cert.ReferenceIdeal.main_c_0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_top_border_distinct : Cert.Pre_top_border_distinct.Facts),
    quiescent_Kernel (hKernel := hKernel)
    ∧ quiescent_KernelIdeal (hKernelIdeal := hKernelIdeal)
    ∧ quiescent_KernelIdeal_pre_top_border_distinct (hKernelIdeal := hKernelIdeal) (hPre_top_border_distinct := hPre_top_border_distinct)
    ∧ quiescent_ReferenceIdeal (hReferenceIdeal := hReferenceIdeal)
    ∧ quiescent_ReferenceIdeal_pre_top_border_distinct (hReferenceIdeal := hReferenceIdeal) (hPre_top_border_distinct := hPre_top_border_distinct)
    ∧ preserves_Kernel_KernelIdeal
    ∧ algebraic_KernelIdeal_ReferenceIdeal_pre_top_border_distinct (hKernelIdeal := hKernelIdeal) (hReferenceIdeal := hReferenceIdeal) (hPre_top_border_distinct := hPre_top_border_distinct)
-- ==== Pre_top_border_distinct.lean ====
abbrev S1x1x512x512 : Shape := ⟨4, ![1, 1, 512, 512]⟩
abbrev S262144 : Shape := ⟨1, ![262144]⟩
abbrev S2049 : Shape := ⟨1, ![2049]⟩
abbrev S1 : Shape := ⟨1, ![1]⟩

class Facts : Prop where
  shapeCasts_S1x1x512x512_S262144 : S1x1x512x512.ShapeCasts S262144
  sliceFits_S262144_S2049 : S262144.Slices (fun _ => 0) S2049
  slices_S2049_S1_1999 : S2049.Slices ![1999] S1
  slices_S2049_S1_2048 : S2049.Slices ![2048] S1

variable [Facts]

def fn {F : FTy → Type} [FloatOps F] (main_arg0 : FVec F S1x1x512x512 .f32) (main_arg1 : FVec F S1x1x512x512 .f32) : IVec S1 1 :=
  let main_v0 : FVec F S262144 .f32 := shapeCast S262144 main_arg0 shapeCasts_S1x1x512x512_S262144
  let main_values : FVec F S2049 .f32 := (fun x => (Host.topK S2049 0 (FloatOps.cmpfTotal .gt) x sliceFits_S262144_S2049).1) main_v0
  let main_indices : IVec S2049 32 := (fun x => (Host.topK S2049 0 (FloatOps.cmpfTotal .gt) x sliceFits_S262144_S2049).2) main_v0
  let main_v1 : FVec F S1 .f32 := (extractStridedSlice S1 ![1999] · slices_S2049_S1_1999) main_values
  let main_v2 : FVec F S1 .f32 := (extractStridedSlice S1 ![2048] · slices_S2049_S1_2048) main_values
  let main_v3 : IVec S1 1 := cmpf .ogt main_v1 main_v2
  main_v3
-- ==== Kernel.lean ====
abbrev S1x1x512x512 : Shape := ⟨4, ![1, 1, 512, 512]⟩
abbrev S200 : Shape := ⟨1, ![200]⟩
abbrev S262144 : Shape := ⟨1, ![262144]⟩
abbrev S_ : Shape := ⟨0, ![]⟩
abbrev S2048 : Shape := ⟨1, ![2048]⟩
abbrev S2048x1 : Shape := ⟨2, ![2048, 1]⟩
abbrev S1x200 : Shape := ⟨2, ![1, 200]⟩
abbrev S1x2048 : Shape := ⟨2, ![1, 2048]⟩
abbrev S128x1 : Shape := ⟨2, ![128, 1]⟩
abbrev S128x2048 : Shape := ⟨2, ![128, 2048]⟩
abbrev S128 : Shape := ⟨1, ![128]⟩
abbrev S2048x200 : Shape := ⟨2, ![2048, 200]⟩

abbrev nBuf : Space → Nat
  | .hbm => 48
  | .vmem => 15
  | .smem => 0
  | _ => 0

abbrev bufTy : (tb : Table) → Fin (tcTables nBuf tb) → BufTy
  | .hbm, ⟨0, _⟩ => ⟨S1x1x512x512, .f32⟩
  | .hbm, ⟨1, _⟩ => ⟨S1x1x512x512, .f32⟩
  | .hbm, ⟨2, _⟩ => ⟨S200, .f32⟩
  | .hbm, ⟨3, _⟩ => ⟨S200, .i32⟩
  | .hbm, ⟨4, _⟩ => ⟨S262144, .f32⟩
  | .hbm, ⟨5, _⟩ => ⟨S262144, .f32⟩
  | .hbm, ⟨6, _⟩ => ⟨S_, .f32⟩
  | .hbm, ⟨7, _⟩ => ⟨S262144, .f32⟩
  | .hbm, ⟨8, _⟩ => ⟨S262144, .f32⟩
  | .hbm, ⟨9, _⟩ => ⟨S2048, .f32⟩
  | .hbm, ⟨10, _⟩ => ⟨S2048, .i32⟩
  | .hbm, ⟨11, _⟩ => ⟨S262144, .f32⟩
  | .hbm, ⟨12, _⟩ => ⟨S2048, .f32⟩
  | .hbm, ⟨13, _⟩ => ⟨S2048, .i32⟩
  | .hbm, ⟨14, _⟩ => ⟨S2048, .f32⟩
  | .hbm, ⟨15, _⟩ => ⟨S_, .i32⟩
  | .hbm, ⟨16, _⟩ => ⟨S2048, .i32⟩
  | .hbm, ⟨17, _⟩ => ⟨S2048, .i1⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .i32⟩
  | .hbm, ⟨22, _⟩ => ⟨S2048x1, .i32⟩
  | .hbm, ⟨23, _⟩ => ⟨S2048, .f32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048, .f32⟩
  | .hbm, ⟨33, _⟩ => ⟨S1x200, .f32⟩
  | .hbm, ⟨34, _⟩ => ⟨S1x2048, .f32⟩
  | .hbm, ⟨35, _⟩ => ⟨S2048x1, .f32⟩
  | .hbm, ⟨36, _⟩ => ⟨S1x2048, .i32⟩
  | .hbm, ⟨37, _⟩ => ⟨S2048x1, .i32⟩
  | .hbm, ⟨38, _⟩ => ⟨S2048x1, .f32⟩
  | .hbm, ⟨39, _⟩ => ⟨S1x2048, .f32⟩
  | .hbm, ⟨40, _⟩ => ⟨S2048x1, .f32⟩
  | .hbm, ⟨41, _⟩ => ⟨S1x2048, .i32⟩
  | .hbm, ⟨42, _⟩ => ⟨S2048x1, .i32⟩
  | .hbm, ⟨43, _⟩ => ⟨S2048x1, .f32⟩
  | .hbm, ⟨44, _⟩ => ⟨S1x200, .f32⟩
  | .hbm, ⟨45, _⟩ => ⟨S1x200, .f32⟩
  | .hbm, ⟨46, _⟩ => ⟨S200, .f32⟩
  | .hbm, ⟨47, _⟩ => ⟨S200, .f32⟩
  | .local _ .vmem, ⟨0, _⟩ => ⟨S1x2048, .f32⟩
  | .local _ .vmem, ⟨1, _⟩ => ⟨S2048x1, .f32⟩
  | .local _ .vmem, ⟨2, _⟩ => ⟨S1x2048, .i32⟩
  | .local _ .vmem, ⟨3, _⟩ => ⟨S2048x1, .i32⟩
  | .local _ .vmem, ⟨4, _⟩ => ⟨S2048x1, .f32⟩
  | .local _ .vmem, ⟨5, _⟩ => ⟨S1x2048, .f32⟩
  | .local _ .vmem, ⟨6, _⟩ => ⟨S2048x1, .f32⟩
  | .local _ .vmem, ⟨7, _⟩ => ⟨S1x2048, .i32⟩
  | .local _ .vmem, ⟨8, _⟩ => ⟨S2048x1, .i32⟩
  | .local _ .vmem, ⟨9, _⟩ => ⟨S2048x1, .f32⟩
  | .local _ .vmem, ⟨10, _⟩ => ⟨S1x200, .f32⟩
  | .local _ .vmem, ⟨11, _⟩ => ⟨S1x200, .f32⟩
  | .local _ .vmem, ⟨12, _⟩ => ⟨S1x200, .f32⟩
  | .local _ .vmem, ⟨13, _⟩ => ⟨S2048x1, .f32⟩
  | .local _ .vmem, ⟨14, _⟩ => ⟨S2048x1, .f32⟩
  | _, _ => ⟨S1x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_v0_2 : Ref sig .tc := ⟨.hbm, 3, rfl⟩
abbrev main_call0_v0 : Ref sig .tc := ⟨.hbm, 4, rfl⟩
abbrev main_call0_v1 : Ref sig .tc := ⟨.hbm, 5, rfl⟩
abbrev main_call0_cst_0 : Ref sig .tc := ⟨.hbm, 6, rfl⟩
abbrev main_call0_v2 : Ref sig .tc := ⟨.hbm, 7, rfl⟩
abbrev main_call0_v3 : Ref sig .tc := ⟨.hbm, 8, rfl⟩
abbrev main_call0_values : Ref sig .tc := ⟨.hbm, 9, rfl⟩
abbrev main_call0_indices : Ref sig .tc := ⟨.hbm, 10, rfl⟩
abbrev main_call0_v4 : Ref sig .tc := ⟨.hbm, 11, rfl⟩
abbrev main_call0_values_1 : Ref sig .tc := ⟨.hbm, 12, rfl⟩
abbrev main_call0_indices_2 : Ref sig .tc := ⟨.hbm, 13, rfl⟩
abbrev main_call0_v5 : Ref sig .tc := ⟨.hbm, 14, rfl⟩
abbrev main_call0_c_3 : Ref sig .tc := ⟨.hbm, 15, rfl⟩
abbrev main_call0_v6 : Ref sig .tc := ⟨.hbm, 16, rfl⟩
abbrev main_call0_v7 : Ref sig .tc := ⟨.hbm, 17, rfl⟩
abbrev main_call0_c_4 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_c_5 : Ref sig .tc := ⟨.hbm, 24, rfl⟩
abbrev main_call0_v13 : Ref sig .tc := ⟨.hbm, 25, rfl⟩
abbrev main_call0_v14 : Ref sig .tc := ⟨.hbm, 26, rfl⟩
abbrev main_call0_c_6 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31_0 : Ref sig .tc := ⟨.hbm, 44, rfl⟩
abbrev main_call0_v31_1 : Ref sig .tc := ⟨.hbm, 45, rfl⟩
abbrev main_v0_0 : Ref sig .tc := ⟨.hbm, 46, rfl⟩
abbrev main_v0_1 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v44 : BitVec 32 := Scalar.muli arg15 c128_i32
  let v45 : Index := Scalar.indexCast v44
  let c0_29 : Index := 0#32
  ![v45.toNat, 0]
@[reducible] def k0_t2_loop : Scf.Loop 32 :=
  let c0_i32_10 : BitVec 32 := 0#32
  let c16_i32_11 : BitVec 32 := 16#32
  let v11 : BitVec 32 := Scalar.addi c0_i32_10 c16_i32_11
  let c1_i32_12 : BitVec 32 := 1#32
  ⟨c0_i32_10, v11, c1_i32_12⟩
def k0_off2 (k0_t2 : Fin k0_t2_loop.trips) : Fin 2 → Nat :=
  let c0_i32_10 : BitVec 32 := 0#32
  let c1_i32_12 : BitVec 32 := 1#32
  let arg15 : BitVec 32 := Scf.iv c0_i32_10 c1_i32_12 k0_t2
  let c128_i32 : BitVec 32 := 128#32
  let v44 : BitVec 32 := Scalar.muli arg15 c128_i32
  let v45 : Index := Scalar.indexCast v44
  let c0_29 : Index := 0#32
  ![v45.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x200 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x200 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S1x1x512x512 : Shape := ⟨4, ![1, 1, 512, 512]⟩
abbrev S200 : Shape := ⟨1, ![200]⟩
abbrev S262144 : Shape := ⟨1, ![262144]⟩
abbrev S_ : Shape := ⟨0, ![]⟩
abbrev S262144x1 : Shape := ⟨2, ![262144, 1]⟩
abbrev S1 : Shape := ⟨1, ![1]⟩

abbrev nBuf : Space → Nat
  | .hbm => 85
  | .vmem => 0
  | .smem => 0
  | _ => 0

abbrev bufTy : (tb : Table) → Fin (tcTables nBuf tb) → BufTy
  | .hbm, ⟨0, _⟩ => ⟨S1x1x512x512, .f32⟩
  | .hbm, ⟨1, _⟩ => ⟨S1x1x512x512, .f32⟩
  | .hbm, ⟨2, _⟩ => ⟨S200, .i32⟩
  | .hbm, ⟨3, _⟩ => ⟨S200, .i32⟩
  | .hbm, ⟨4, _⟩ => ⟨S262144, .f32⟩
  | .hbm, ⟨5, _⟩ => ⟨S262144, .i32⟩
  | .hbm, ⟨6, _⟩ => ⟨S262144, .f32⟩
  | .hbm, ⟨7, _⟩ => ⟨S262144, .i32⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144, .i32⟩
  | .hbm, ⟨20, _⟩ => ⟨S262144, .f32⟩
  | .hbm, ⟨21, _⟩ => ⟨S_, .f32⟩
  | .hbm, ⟨22, _⟩ => ⟨S262144, .f32⟩
  | .hbm, ⟨23, _⟩ => ⟨S262144, .f32⟩
  | .hbm, ⟨24, _⟩ => ⟨S_, .f32⟩
  | .hbm, ⟨25, _⟩ => ⟨S200, .f32⟩
  | .hbm, ⟨26, _⟩ => ⟨S_, .f32⟩
  | .hbm, ⟨27, _⟩ => ⟨S200, .f32⟩
  | .hbm, ⟨28, _⟩ => ⟨S_, .i32⟩
  | .hbm, ⟨29, _⟩ => ⟨S200, .i32⟩
  | .hbm, ⟨30, _⟩ => ⟨S262144, .i32⟩
  | .hbm, ⟨31, _⟩ => ⟨S262144, .f32⟩
  | .hbm, ⟨32, _⟩ => ⟨S262144, .f32⟩
  | .hbm, ⟨33, _⟩ => ⟨S_, .i32⟩
  | .hbm, ⟨34, _⟩ => ⟨S200, .f32⟩
  | .hbm, ⟨35, _⟩ => ⟨S200, .f32⟩
  | .hbm, ⟨36, _⟩ => ⟨S_, .i32⟩
  | .hbm, ⟨37, _⟩ => ⟨S_, .i1⟩
  | .hbm, ⟨38, _⟩ => ⟨S1, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S262144, .f32⟩
  | .hbm, ⟨45, _⟩ => ⟨S262144, .i32⟩
  | .hbm, ⟨46, _⟩ => ⟨S262144, .i1⟩
  | .hbm, ⟨47, _⟩ => ⟨S262144, .f32⟩
  | .hbm, ⟨48, _⟩ => ⟨S262144, .f32⟩
  | .hbm, ⟨49, _⟩ => ⟨S_, .f32⟩
  | .hbm, ⟨50, _⟩ => ⟨S262144, .f32⟩
  | .hbm, ⟨51, _⟩ => ⟨S262144, .i1⟩
  | .hbm, ⟨52, _⟩ => ⟨S_, .f32⟩
  | .hbm, ⟨53, _⟩ => ⟨S_, .f32⟩
  | .hbm, ⟨54, _⟩ => ⟨S262144, .f32⟩
  | .hbm, ⟨55, _⟩ => ⟨S262144, .f32⟩
  | .hbm, ⟨56, _⟩ => ⟨S_, .f32⟩
  | .hbm, ⟨57, _⟩ => ⟨S262144, .f32⟩
  | .hbm, ⟨58, _⟩ => ⟨S262144, .i1⟩
  | .hbm, ⟨59, _⟩ => ⟨S_, .f32⟩
  | .hbm, ⟨60, _⟩ => ⟨S_, .f32⟩
  | .hbm, ⟨61, _⟩ => ⟨S262144, .f32⟩
  | .hbm, ⟨62, _⟩ => ⟨S262144, .f32⟩
  | .hbm, ⟨63, _⟩ => ⟨S262144, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S262144, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S1, .f32⟩
  | .hbm, ⟨80, _⟩ => ⟨S200, .f32⟩
  | .hbm, ⟨81, _⟩ => ⟨S1, .f32⟩
  | .hbm, ⟨82, _⟩ => ⟨S200, .f32⟩
  | .hbm, ⟨83, _⟩ => ⟨S_, .i32⟩
  | .hbm, ⟨84, _⟩ => ⟨S_, .i32⟩
  | _, _ => ⟨S1x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_call0_v0 : Ref sig .tc := ⟨.hbm, 5, rfl⟩
abbrev main_call0_v1_0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_c_2 : Ref sig .tc := ⟨.hbm, 11, rfl⟩
abbrev main_v4 : Ref sig .tc := ⟨.hbm, 12, rfl⟩
abbrev main_v5 : Ref sig .tc := ⟨.hbm, 13, rfl⟩
abbrev main_c_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_c_6 : Ref sig .tc := ⟨.hbm, 28, rfl⟩
abbrev main_v16_0 : Ref sig .tc := ⟨.hbm, 29, rfl⟩
abbrev main_v16_1 : Ref sig .tc := ⟨.hbm, 30, rfl⟩
abbrev main_v16_2 : Ref sig .tc := ⟨.hbm, 31, rfl⟩
abbrev main_v16_3 : Ref sig .tc := ⟨.hbm, 32, rfl⟩
abbrev main_v16_4 : Ref sig .tc := ⟨.hbm, 33, rfl⟩
abbrev main_v16_5 : Ref sig .tc := ⟨.hbm, 34, rfl⟩
abbrev main_v16_6 : Ref sig .tc := ⟨.hbm, 35, rfl⟩
abbrev main_while0c_c_13 : Ref sig .tc := ⟨.hbm, 36, rfl⟩
abbrev main_while0c_v17 : Ref sig .tc := ⟨.hbm, 37, rfl⟩
abbrev main_while0b_call1_v0 : Ref sig .tc := ⟨.hbm, 38, rfl⟩
abbrev main_while0b_v17 : Ref sig .tc := ⟨.hbm, 39, rfl⟩
abbrev main_while0b_c_13 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_v21 : Ref sig .tc := ⟨.hbm, 44, rfl⟩
abbrev main_while0b_v22 : Ref sig .tc := ⟨.hbm, 45, rfl⟩
abbrev main_while0b_v23 : Ref sig .tc := ⟨.hbm, 46, rfl⟩
abbrev main_while0b_v24 : Ref sig .tc := ⟨.hbm, 47, rfl⟩
abbrev main_while0b_v25 : Ref sig .tc := ⟨.hbm, 48, rfl⟩
abbrev main_while0b_cst_14 : Ref sig .tc := ⟨.hbm, 49, rfl⟩
abbrev main_while0b_v26 : Ref sig .tc := ⟨.hbm, 50, rfl⟩
abbrev main_while0b_v27 : Ref sig .tc := ⟨.hbm, 51, rfl⟩
abbrev main_while0b_cst_15 : Ref sig .tc := ⟨.hbm, 52, rfl⟩
abbrev main_while0b_call2_v0 : Ref sig .tc := ⟨.hbm, 53, rfl⟩
abbrev main_while0b_call2_v1 : Ref sig .tc := ⟨.hbm, 54, rfl⟩
abbrev main_while0b_v28 : Ref sig .tc := ⟨.hbm, 55, rfl⟩
abbrev main_while0b_cst_16 : Ref sig .tc := ⟨.hbm, 56, rfl⟩
abbrev main_while0b_v29 : Ref sig .tc := ⟨.hbm, 57, rfl⟩
abbrev main_while0b_v30 : Ref sig .tc := ⟨.hbm, 58, rfl⟩
abbrev main_while0b_cst_17 : Ref sig .tc := ⟨.hbm, 59, rfl⟩
abbrev main_while0b_call3_v0 : Ref sig .tc := ⟨.hbm, 60, rfl⟩
abbrev main_while0b_call3_v1 : Ref sig .tc := ⟨.hbm, 61, rfl⟩
abbrev main_while0b_v31 : Ref sig .tc := ⟨.hbm, 62, rfl⟩
abbrev main_while0b_v32 : Ref sig .tc := ⟨.hbm, 63, rfl⟩
abbrev main_while0b_cst_18 : Ref sig .tc := ⟨.hbm, 64, rfl⟩
abbrev main_while0b_v33 : Ref sig .tc := ⟨.hbm, 65, rfl⟩
abbrev main_while0b_cst_19 : Ref sig .tc := ⟨.hbm, 66, rfl⟩
abbrev main_while0b_v34 : Ref sig .tc := ⟨.hbm, 67, rfl⟩
abbrev main_while0b_cst_20 : Ref sig .tc := ⟨.hbm, 68, rfl⟩
abbrev main_while0b_v35 : Ref sig .tc := ⟨.hbm, 69, rfl⟩
abbrev main_while0b_v36 : Ref sig .tc := ⟨.hbm, 70, rfl⟩
abbrev main_while0b_v37 : Ref sig .tc := ⟨.hbm, 71, rfl⟩
abbrev main_while0b_cst_21 : Ref sig .tc := ⟨.hbm, 72, rfl⟩
abbrev main_while0b_v38 : Ref sig .tc := ⟨.hbm, 73, rfl⟩
abbrev main_while0b_cst_22 : Ref sig .tc := ⟨.hbm, 74, rfl⟩
abbrev main_while0b_v39 : Ref sig .tc := ⟨.hbm, 75, rfl⟩
abbrev main_while0b_cst_23 : Ref sig .tc := ⟨.hbm, 76, rfl⟩
abbrev main_while0b_v40 : Ref sig .tc := ⟨.hbm, 77, rfl⟩
abbrev main_while0b_v41 : Ref sig .tc := ⟨.hbm, 78, rfl⟩
abbrev main_while0b_call4_v0 : Ref sig .tc := ⟨.hbm, 79, rfl⟩
abbrev main_while0b_v42 : Ref sig .tc := ⟨.hbm, 80, rfl⟩
abbrev main_while0b_call5_v0 : Ref sig .tc := ⟨.hbm, 81, rfl⟩
abbrev main_while0b_v43 : Ref sig .tc := ⟨.hbm, 82, rfl⟩
abbrev main_while0b_c_24 : Ref sig .tc := ⟨.hbm, 83, rfl⟩
abbrev main_while0b_v44 : Ref sig .tc := ⟨.hbm, 84, rfl⟩

abbrev nD : Nat := 1
abbrev τ : Topo := Topo.v7x

variable {F : FTy → Type} [FloatOps F]

abbrev main_while0_count : Scf.Loop 32 := ⟨0#32, 200#32, 1#32⟩
-- ==== Proof.RefRun.lean ====
/-
  The reference program's run. Its host operations before the loop leave the pixels' ranks, the mask and one minus the
  mask, the table of seed counts and two zero tables; each of the 200 trips writes one entry of the two tables. This
  module states what the loop starts from and that the results end at the loop's step iterated 200 times on it.
-/
module

public import proofs.«01_k».proof.Defs
public import proofs.«01_k».proof.Proof.Gen.ReferenceIdeal.Run
public import Idealize.ShloMosaic.Lib.Quiescent

@[expose] public section

noncomputable section

namespace Cert.Proof.RefRun

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (ρ : Dev nD → PrngReg)

/-- The contents after the loop: the condition read once more after the last trip. -/
abbrev final (c : Dev nD) : Valuation τ sig (Elt Ideal) := finalContents condOps preI bodyI postI 200 m c

set_option maxRecDepth 100000 in
/-- No operation writes an argument or the constant result: at the end each is what the loop started from. -/
theorem final_keep (c : Dev nD) (r : Ref sig .tc)
    (hr : r ∉ condOps_W ++ while0Ops0_W ++ while0Ops0_1_W ++ while0Ops0_2_W ++ while0Ops0_3_W ++ while0Ops0_4_W
      ++ while0Ops0_5_W ++ while0Ops0_6_W ++ while0Ops0_7_W ++ while0Ops0_8_W) :
    final m c (Proc.devRef .tc r) = entryContents preI m c (Proc.devRef .tc r) := by
  simp only [List.mem_append, not_or] at hr
  obtain ⟨⟨⟨⟨⟨⟨⟨⟨⟨hc, h0⟩, h1⟩, h2⟩, h3⟩, h4⟩, h5⟩, h6⟩, h7⟩, h8⟩ := hr
  have htrip : ∀ k, atTrip condOps bodyI (entryContents preI m) k c (Proc.devRef .tc r)
      = entryContents preI m c (Proc.devRef .tc r) := by
    intro k
    induction k with
    | zero => rfl
    | succ k ih =>
      rw [atTrip_succ]
      simp only [bodyI, afterL_cons, afterL_nil]
      rw [after_of_writes_sub _ _ while0Ops0_8_writes h8, after_of_writes_sub _ _ while0Ops0_7_writes h7,
        after_of_writes_sub _ _ while0Ops0_6_writes h6, after_of_writes_sub _ _ while0Ops0_5_writes h5,
        after_of_writes_sub _ _ while0Ops0_4_writes h4, after_of_writes_sub _ _ while0Ops0_3_writes h3,
        after_of_writes_sub _ _ while0Ops0_2_writes h2, after_of_writes_sub _ _ while0Ops0_1_writes h1,
        after_of_writes_sub _ _ while0Ops0_writes h0, after_of_writes_sub _ _ condOps_writes hc, ih]
      rfl
  show after condOps (atTrip condOps bodyI (entryContents preI m) 200 c) (Proc.devRef .tc r) = _
  rw [after_of_writes_sub _ _ condOps_writes hc, htrip]

/-- Before the loop an argument is what it was at the start. -/
theorem entry_keep (c : Dev nD) (r : Ref sig .tc) (hr : r ∉ hostOps0_W ++ hostOps0_1_W ++ hostOps0_2_W) :
    entryContents preI m c (Proc.devRef .tc r) = m ((c.tc : Thread nD τ).loc r) := by
  simp only [List.mem_append, not_or] at hr
  simp only [entryContents, afterL_cons, afterL_nil]
  rw [after_of_writes_sub _ _ hostOps0_2_writes hr.2, after_of_writes_sub _ _ hostOps0_1_writes hr.1.2,
    after_of_writes_sub _ _ hostOps0_writes hr.1.1]

/-- A carried buffer ends at the step iterated 200 times on what the loop starts from. -/
theorem final_carried (c : Dev nD) (r : Ref sig .tc) (hr : r ∈ carriedRefs) :
    final m c (Proc.devRef .tc r) = STEP^[200] (entryContents preI m c) (Proc.devRef .tc r) :=
  (cond_keeps _ r hr).trans (atK_agree m c 200 r hr)

/-- The reference runs, with its arguments unchanged and every counter at zero. -/
theorem frame : θ_run (defs (F := Ideal)) (onTc (τ := τ) (main (F := Ideal))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c =>
    ⟨((h c main_arg0 rfl).trans (final_keep m c main_arg0 (by decide +kernel))).trans (entry_keep m c main_arg0 (by decide +kernel)),
     ((h c main_arg1 rfl).trans (final_keep m c main_arg1 (by decide +kernel))).trans (entry_keep m c main_arg1 (by decide +kernel))⟩,
    sem_eq_zero_of_no_sems (by decide) r.2⟩) (run_fold m ρ)

end Cert.Proof.RefRun

end
-- ==== Proof.Sorts.lean ====
/-
  What the two programs' host operations leave in rank-1 arrays, read at a position: a stable sort carrying a second
  array, the top `k` values with their positions, a scatter along a permutation, a gather at listed positions.
-/
module

public import Idealize.ShloMosaic.PureOps.Ideal
public import Idealize.ShloMosaic.PureOps.Ideal.Laws
public import Idealize.ShloMosaic.Lib.SortFacts
public import Idealize.ShloMosaic.Lib.WordCmp
public import Idealize.ShloMosaic.Lib.Routing.OpsSet

@[expose] public section

noncomputable section

namespace Cert.Proof.Sorts

open Idealize.ShloMosaic Idealize.ShloMosaic.ValueIdx Idealize.ShloMosaic.Routing

/-- The position of a rank-1 array replaced along its only axis. -/
theorem along_one {n : ℕ} (j : (shape1 n).Idx) (h : 0 < (shape1 n).rank) (c : Fin n) :
    j.along (⟨0, h⟩ : Fin (shape1 n).rank) c = ix1 c := (Shape.Idx.along_rank1 j c).trans (ofFin_eq_ix1 c)

/-- A stable sort of two rank-1 arrays together: place `r` of each result holds that array's element at the position
    which the sort puts at `r`. -/
theorem sort2_read {n : ℕ} {α β : Type} (cmp : α × β → α × β → BitVec 1) (x : (shape1 n).Idx → α) (y : (shape1 n).Idx → β)
    (B : Fin n → Fin n → Bool) (hB : ∀ a b, (cmp (x (ix1 a), y (ix1 a)) (x (ix1 b), y (ix1 b)) == 1#1) = B a b) (r : Fin n) :
    (Host.sort2 (shape1 n) 0 cmp x y).1 (ix1 r) = x (ix1 (sortedFrom B r))
      ∧ (Host.sort2 (shape1 n) 0 cmp x y).2 (ix1 r) = y (ix1 (sortedFrom B r)) := by
  have hd : 0 < (shape1 n).rank := Nat.zero_lt_one
  have hb : (fun a b : Fin n => cmp (x ((ix1 r : (shape1 n).Idx).along ⟨0, hd⟩ a), y ((ix1 r : (shape1 n).Idx).along ⟨0, hd⟩ a))
      (x ((ix1 r : (shape1 n).Idx).along ⟨0, hd⟩ b), y ((ix1 r : (shape1 n).Idx).along ⟨0, hd⟩ b)) == 1#1) = B := by
    funext a b
    rw [along_one, along_one]
    exact hB a b
  unfold Host.sort2
  rw [dif_pos hd]
  have hs := congrArg (fun C => sortedFrom (n := n) C r) hb
  exact ⟨(congrArg (fun c : Fin n => x ((ix1 r : (shape1 n).Idx).along ⟨0, hd⟩ c)) hs).trans (congrArg x (along_one _ _ _)),
    (congrArg (fun c : Fin n => y ((ix1 r : (shape1 n).Idx).along ⟨0, hd⟩ c)) hs).trans (congrArg y (along_one _ _ _))⟩

/-- The top `k` of a rank-1 array: place `r` holds the element at the position which the stable sort by `gt` puts at
    `r`, and that position as a word. -/
theorem topK_read {n k : ℕ} {α : Type} (gt : α → α → BitVec 1) (x : (shape1 n).Idx → α)
    (h : (shape1 n).Slices (fun _ => 0) (shape1 k)) (hk : k ≤ n)
    (B : Fin n → Fin n → Bool) (hB : ∀ a b, (gt (x (ix1 a)) (x (ix1 b)) == 1#1) = B a b) (r : Fin k) :
    (Host.topK (shape1 k) 0 gt x h).1 (ix1 r) = x (ix1 (sortedFrom B (r.castLE hk)))
      ∧ (Host.topK (shape1 k) 0 gt x h).2 (ix1 r) = BitVec.ofNat 32 (sortedFrom B (r.castLE hk)).val := by
  have hd : 0 < (shape1 n).rank := Nat.zero_lt_one
  have hi : ∀ (hr : ∀ a : Fin (shape1 n).rank, 0 + ((ix1 r : (shape1 k).Idx) (a.cast h.1.symm)).val < (shape1 n).size a),
      (fun a : Fin (shape1 n).rank => (⟨0 + ((ix1 r : (shape1 k).Idx) (a.cast h.1.symm)).val, hr a⟩ : Fin ((shape1 n).size a)))
        = ix1 (r.castLE hk) := by
    intro hr
    funext a
    match a with
    | ⟨0, _⟩ => exact Fin.ext (Nat.zero_add _)
  obtain ⟨h1, h2⟩ := sort2_read (n := n) (fun l r : α × BitVec 32 => gt l.1 r.1) x
    (fun i => if hd : 0 < (shape1 n).rank then iotaInDim (shape1 n) 32 ⟨0, hd⟩ i else 0#32) B hB (r.castLE hk)
  constructor
  · exact (congrArg (Host.sort2 (shape1 n) 0 (fun l r : α × BitVec 32 => gt l.1 r.1) x
      (fun i => if hd : 0 < (shape1 n).rank then iotaInDim (shape1 n) 32 ⟨0, hd⟩ i else 0#32)).1 (hi _)).trans h1
  · refine (congrArg (Host.sort2 (shape1 n) 0 (fun l r : α × BitVec 32 => gt l.1 r.1) x
      (fun i => if hd : 0 < (shape1 n).rank then iotaInDim (shape1 n) 32 ⟨0, hd⟩ i else 0#32)).2 (hi _)).trans (h2.trans ?_)
    rw [dif_pos hd]
    rfl

/-- "Greater" of two extended reals, asked as a word. -/
theorem gt_one (a b : EReal) : (FloatOps.cmpfTotal (F := Ideal) (φ := .f32) .gt a b == 1#1) = decide (b < a) := by
  show (BitVec.ofBool (decide (b < a)) == 1#1) = _
  cases decide (b < a) <;> rfl

/-- The same of two negated ones: "less" of the two. -/
theorem gt_neg_one (a b : EReal) : (FloatOps.cmpfTotal (F := Ideal) (φ := .f32) .gt (-a) (-b) == 1#1) = decide (a < b) := by
  rw [gt_one, decide_eq_decide]
  exact EReal.neg_lt_neg_iff

/-- A word of a small number, read signed, is the number. -/
theorem toInt_small (k : ℕ) (h : k < 2 ^ 31) : (BitVec.ofNat 32 k).toInt = (k : ℤ) :=
  StableHlo.Predicate.toInt_ofNat_small _ h

end Cert.Proof.Sorts

end
-- ==== Proof.Ranks.lean ====
/-
  Ranks in a strict total order on finitely many positions, and the sums over the positions of lowest rank. A list that
  holds every position of rank below `M` is enough to find the positions of rank below `z ≤ M`: ranking the listed
  positions among themselves tests `< z` as ranking them among all positions does. Also: a stable sort puts at place
  `k` the position of rank `k` in the order "smaller key first, equal keys by position".
-/
module

public import Idealize.ShloMosaic.Lib.SortFacts
public import Mathlib.Algebra.BigOperators.Group.Finset.Basic
public import Mathlib.Data.Fintype.Card
public import Mathlib.Order.OrderDual

@[expose] public section

namespace Cert.Proof.Ranks

open Idealize.ShloMosaic Finset

section total

variable {n : ℕ} (r : Fin n → Fin n → Prop) [DecidableRel r]

/-- The number of positions before `p`. -/
def rank (p : Fin n) : ℕ := (univ.filter fun q => r q p).card

/-- A strict total order: what the ranks need of a relation. -/
structure Strict : Prop where
  irrefl : ∀ p, ¬ r p p
  trans : ∀ p q s, r p q → r q s → r p s
  total : ∀ p q, p ≠ q → r p q ∨ r q p

variable {r}

/-- A strict order read backwards is one. -/
theorem Strict.swap (h : Strict r) : Strict fun p q => r q p :=
  ⟨h.irrefl, fun p q s a b => h.trans _ _ _ b a, fun p q e => (h.total p q e).symm⟩

/-- Earlier positions have lower rank. -/
theorem rank_lt_of (h : Strict r) {p q : Fin n} (hpq : r p q) : rank r p < rank r q := by
  refine card_lt_card (Finset.ssubset_iff_subset_ne.mpr ⟨fun s hs => ?_, fun e => ?_⟩)
  · simp only [mem_filter, mem_univ, true_and] at hs ⊢
    exact h.trans _ _ _ hs hpq
  · have : p ∈ univ.filter fun s => r s p := e ▸ (by simpa using hpq)
    exact h.irrefl p (by simpa using this)

/-- A position of lower rank is earlier. -/
theorem of_rank_lt (h : Strict r) {p q : Fin n} (hpq : rank r p < rank r q) : r p q := by
  rcases eq_or_ne p q with rfl | hne
  · exact absurd hpq (lt_irrefl _)
  · rcases h.total p q hne with h1 | h1
    · exact h1
    · exact absurd (rank_lt_of h h1) (by omega)

/-- Two elements of one rank are the same. -/
theorem rank_injective (h : Strict r) : Function.Injective (rank r) := fun p q e => by
  by_contra hne
  rcases h.total p q hne with h1 | h1 <;> have := rank_lt_of h h1 <;> omega

/-- A rank is below the number of elements. -/
theorem rank_lt_n (h : Strict r) (p : Fin n) : rank r p < n := by
  have : (univ.filter fun q => r q p) ⊂ univ := by
    refine Finset.ssubset_iff_subset_ne.mpr ⟨subset_univ _, fun e => ?_⟩
    have : p ∈ univ.filter fun q => r q p := by rw [e]; exact mem_univ p
    exact h.irrefl p (by simpa using this)
  simpa [rank] using card_lt_card this

/-- Every number below the number of positions is a rank. -/
theorem exists_rank (h : Strict r) {i : ℕ} (hi : i < n) : ∃ p, rank r p = i := by
  have hinj : Function.Injective fun p : Fin n => (⟨rank r p, rank_lt_n h p⟩ : Fin n) := fun p q e =>
    rank_injective h (congrArg Fin.val e)
  obtain ⟨p, hp⟩ := Finite.injective_iff_surjective.mp hinj ⟨i, hi⟩
  exact ⟨p, congrArg Fin.val hp⟩

/-- Exactly `z` positions have rank below `z`. -/
theorem card_rank_lt (h : Strict r) {z : ℕ} (hz : z ≤ n) : (univ.filter fun p => rank r p < z).card = z := by
  have : (univ.filter fun p => rank r p < z).image (rank r) = range z := by
    ext i
    simp only [mem_image, mem_filter, mem_univ, true_and, mem_range]
    constructor
    · rintro ⟨p, hp, rfl⟩; exact hp
    · intro hi
      obtain ⟨p, hp⟩ := exists_rank h (lt_of_lt_of_le hi hz)
      exact ⟨p, hp ▸ hi, hp⟩
  rw [← card_image_of_injective _ (rank_injective h), this, card_range]

/-- The ranks from the two ends add up to one less than the number of positions. -/
theorem rank_add_swap (h : Strict r) (p : Fin n) : rank r p + rank (fun a b => r b a) p + 1 = n := by
  have h1 : (univ.filter fun q => r q p) ∪ (univ.filter fun q => r p q) = univ.erase p := by
    ext q
    simp only [mem_union, mem_filter, mem_univ, true_and, mem_erase, and_true]
    constructor
    · rintro (hq | hq) rfl <;> exact h.irrefl _ hq
    · intro hq; exact h.total q p hq
  have h2 : Disjoint (univ.filter fun q => r q p) (univ.filter fun q => r p q) := by
    rw [disjoint_left]
    intro q hq hq'
    simp only [mem_filter, mem_univ, true_and] at hq hq'
    exact h.irrefl _ (h.trans _ _ _ hq hq')
  have h3 := card_union_of_disjoint h2
  rw [h1, card_erase_of_mem (mem_univ p), card_univ, Fintype.card_fin] at h3
  have := rank_lt_n h p
  show (univ.filter fun q => r q p).card + (univ.filter fun q => r p q).card + 1 = n
  omega

/-- The listed positions ranked among themselves. -/
def listRank {K : ℕ} (r : Fin n → Fin n → Prop) [DecidableRel r] (T : Fin K → Fin n) (j : Fin K) : ℕ :=
  (univ.filter fun k => r (T k) (T j)).card

/-- A list of different positions that holds every position of rank below `M` tests "rank below `z`" by the ranks
    among the listed positions. -/
theorem listRank_lt_iff (h : Strict r) {K M : ℕ} (T : Fin K → Fin n) (hT : Function.Injective T)
    (hM : ∀ p, rank r p < M → ∃ k, T k = p) {z : ℕ} (hz : z ≤ M) (j : Fin K) :
    listRank r T j < z ↔ rank r (T j) < z := by
  constructor
  · intro hj
    by_contra hge
    push Not at hge
    have hzn : z ≤ n := le_of_lt (lt_of_le_of_lt hge (rank_lt_n h _))
    have hsub : (univ.filter fun p => rank r p < z) ⊆ (univ.filter fun k => r (T k) (T j)).image T := by
      intro p hp
      simp only [mem_filter, mem_univ, true_and] at hp
      obtain ⟨k, hk⟩ := hM p (lt_of_lt_of_le hp hz)
      simp only [mem_image, mem_filter, mem_univ, true_and]
      subst hk
      exact ⟨k, of_rank_lt h (lt_of_lt_of_le hp hge), rfl⟩
    have := card_le_card hsub
    rw [card_rank_lt h hzn, card_image_of_injective _ hT] at this
    unfold listRank at hj
    omega
  · intro hj
    refine lt_of_le_of_lt ?_ hj
    have hsub : (univ.filter fun k => r (T k) (T j)).image T ⊆ univ.filter fun q => r q (T j) := by
      intro q hq
      simp only [mem_image, mem_filter, mem_univ, true_and] at hq ⊢
      obtain ⟨k, hk, rfl⟩ := hq
      exact hk
    have := card_le_card hsub
    rw [card_image_of_injective _ hT] at this
    exact this

/-- The sum over the listed positions of rank below `z` among themselves is the sum over all positions of rank below
    `z`. -/
theorem sum_listRank (h : Strict r) {K M : ℕ} (T : Fin K → Fin n) (hT : Function.Injective T)
    (hM : ∀ p, rank r p < M → ∃ k, T k = p) {z : ℕ} (hz : z ≤ M) {β : Type} [AddCommMonoid β] (f : Fin n → β) :
    (∑ j, if listRank r T j < z then f (T j) else 0) = ∑ p, if rank r p < z then f p else 0 := by
  rw [sum_congr rfl fun j _ => if_congr (listRank_lt_iff h T hT hM hz j) rfl rfl,
    ← sum_image (s := univ) (g := T) (f := fun p => if rank r p < z then f p else 0) fun a _ b _ e => hT e]
  refine sum_subset (subset_univ _) fun p _ hp => if_neg fun hlt => hp ?_
  obtain ⟨k, hk⟩ := hM p (lt_of_lt_of_le hlt hz)
  exact mem_image.mpr ⟨k, mem_univ k, hk⟩

end total

/-! ## The order by key, then by position -/

section keyed

variable {α : Type} [LinearOrder α] {n : ℕ} (x : Fin n → α)

/-- Smaller key first, equal keys by position. -/
def before (p q : Fin n) : Prop := x p < x q ∨ (x p = x q ∧ p < q)

/-- The order can be decided. -/
instance : DecidableRel (before x) := fun _ _ => inferInstanceAs (Decidable (_ ∨ _))

/-- The order by value, a tie by position, is strict. -/
theorem before_strict : Strict (before x) where
  irrefl p := by rintro (h | h); exacts [lt_irrefl _ h, lt_irrefl _ h.2]
  trans p q s := by
    rintro (h | ⟨h, h'⟩) (g | ⟨g, g'⟩)
    · exact .inl (h.trans g)
    · exact .inl (g ▸ h)
    · exact .inl (h ▸ g)
    · exact .inr ⟨h.trans g, h'.trans g'⟩
  total p q hne := by
    rcases lt_trichotomy (x p) (x q) with h | h | h
    · exact .inl (.inl h)
    · rcases lt_or_gt_of_ne hne with g | g
      · exact .inl (.inr ⟨h, g⟩)
      · exact .inr (.inr ⟨h.symm, g⟩)
    · exact .inr (.inl h)

variable {x} {B : Fin n → Fin n → Bool}

/-- Inserting a position below all of a list's keeps the list in order. -/
theorem pairwise_insert (hB : ∀ p q, B p q = true ↔ x p < x q) (a : Fin n) (l : List (Fin n)) (ha : ∀ b ∈ l, a < b)
    (hl : l.Pairwise (before x)) : (insertBefore B a l).Pairwise (before x) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore B a l).mem_iff.mp hc) with rfl | hc'
      · exact .inl ((hB b c).mp h)
      · exact hl.1 c hc'
    · rename_i h
      have hab : before x a b := by
        rcases lt_or_eq_of_le (not_lt.mp fun hlt => h ((hB b a).mpr hlt)) with g | g
        · exact .inl g
        · exact .inr ⟨g, ha b List.mem_cons_self⟩
      refine List.pairwise_cons.mpr ⟨fun c hc => ?_, List.pairwise_cons.mpr hl⟩
      rcases List.mem_cons.mp hc with rfl | hc'
      · exact hab
      · exact (before_strict x).trans _ _ _ hab (hl.1 c hc')

/-- A stable sort of ascending positions puts them in order. -/
theorem pairwise_sort (hB : ∀ p q, B p q = true ↔ x p < x q) (l : List (Fin n)) (hl : l.Pairwise (· < ·)) :
    (stableSort B l).Pairwise (before x) := by
  induction l with
  | nil => exact List.Pairwise.nil
  | cons a l ih =>
    rw [List.pairwise_cons] at hl
    unfold stableSort
    exact pairwise_insert hB a _ (fun b hb => hl.1 b ((perm_stableSort B l).mem_iff.mp hb)) (ih hl.2)

/-- A stable sort puts earlier positions at earlier places. -/
theorem sorted_before (hB : ∀ p q, B p q = true ↔ x p < x q) {i j : Fin n} (hij : i < j) :
    before x (sortedFrom B i) (sortedFrom B j) := by
  have hp := List.pairwise_iff_get.mp (pairwise_sort hB (List.finRange n) (List.pairwise_lt_finRange n))
  exact hp _ _ hij

/-- A stable sort puts at place `k` the position of rank `k`. -/
theorem rank_sorted (hB : ∀ p q, B p q = true ↔ x p < x q) (k : Fin n) : rank (before x) (sortedFrom B k) = k.val := by
  have himg : (univ.filter fun q => before x q (sortedFrom B k)) = (univ.filter fun i : Fin n => i < k).image (sortedFrom B) := by
    ext q
    simp only [mem_filter, mem_univ, true_and, mem_image]
    constructor
    · intro hq
      obtain ⟨i, rfl⟩ := sortedFrom_surjective B q
      refine ⟨i, ?_, rfl⟩
      rcases lt_trichotomy i k with h | h | h
      · exact h
      · exact absurd (h ▸ hq) ((before_strict x).irrefl _)
      · exact absurd ((before_strict x).trans _ _ _ hq (sorted_before hB h)) ((before_strict x).irrefl _)
    · rintro ⟨i, hi, rfl⟩
      exact sorted_before hB hi
  unfold rank
  rw [himg, card_image_of_injective _ (sortedFrom_injective B)]
  have : (univ.filter fun i : Fin n => i < k) = Iio k := by ext i; simp
  rw [this, Fin.card_Iio]

/-- The place of a position is its rank. -/
theorem sortedFrom_rank (hB : ∀ p q, B p q = true ↔ x p < x q) {p : Fin n} {k : Fin n} (h : rank (before x) p = k.val) :
    sortedFrom B k = p := rank_injective (before_strict x) ((rank_sorted hB k).trans h.symm)

/-- The first places of an ascending stable sort hold the positions of lowest rank. -/
theorem bottom_listed (hB : ∀ p q, B p q = true ↔ x p < x q) {K M : ℕ} (hK : K ≤ n) (hMK : M ≤ K) (p : Fin n)
    (hp : rank (before x) p < M) : ∃ k : Fin K, sortedFrom B (k.castLE hK) = p :=
  ⟨⟨rank (before x) p, by omega⟩, sortedFrom_rank hB rfl⟩

end keyed

/-- The first places of a descending stable sort hold the last positions of the ascending one, when the key at the
    place before `M` is above the key at place `K`: on a tie across both the two sorts keep different positions. -/
theorem top_listed {α : Type} [LinearOrder α] {n : ℕ} {x : Fin n → α} {B : Fin n → Fin n → Bool}
    (hB : ∀ p q, B p q = true ↔ x q < x p) {K M : ℕ} (hK : K < n) (hM : 0 < M) (hMK : M ≤ K)
    (hgap : x (sortedFrom B ⟨K, hK⟩) < x (sortedFrom B ⟨M - 1, by omega⟩)) (p : Fin n)
    (hp : rank (fun a b => before x b a) p < M) : ∃ k : Fin K, sortedFrom B (k.castLE hK.le) = p := by
  have hB' : ∀ p q, B p q = true ↔ (OrderDual.toDual ∘ x) p < (OrderDual.toDual ∘ x) q := fun p q =>
    (hB p q).trans OrderDual.toDual_lt_toDual.symm
  have hmono : ∀ i j : Fin n, i ≤ j → x (sortedFrom B j) ≤ x (sortedFrom B i) := by
    intro i j hij
    rcases lt_or_eq_of_le hij with h | h
    · rcases sorted_before hB' h with g | g
      · exact le_of_lt (OrderDual.toDual_lt_toDual.mp g)
      · exact le_of_eq (OrderDual.toDual_inj.mp g.1).symm
    · rw [h]
  obtain ⟨i, rfl⟩ := sortedFrom_surjective B p
  rcases Nat.lt_or_ge i.val K with hi | hi
  · exact ⟨⟨i.val, hi⟩, rfl⟩
  · exfalso
    have hlow : x (sortedFrom B i) ≤ x (sortedFrom B ⟨K, hK⟩) := hmono ⟨K, hK⟩ i hi
    have hsub : (univ.filter fun j : Fin n => j.val < M).image (sortedFrom B)
        ⊆ univ.filter fun q => before x (sortedFrom B i) q := by
      intro q hq
      simp only [mem_image, mem_filter, mem_univ, true_and] at hq ⊢
      obtain ⟨j, hj, rfl⟩ := hq
      refine .inl (lt_of_le_of_lt hlow (lt_of_lt_of_le hgap (hmono j ⟨M - 1, by omega⟩ ?_)))
      show j.val ≤ M - 1
      omega
    have hc := card_le_card hsub
    rw [card_image_of_injective _ (sortedFrom_injective B)] at hc
    have hcount : (univ.filter fun j : Fin n => j.val < M).card = M := by
      have : (univ.filter fun j : Fin n => j.val < M) = Iio (⟨M, by omega⟩ : Fin n) := by ext j; simp [Fin.lt_def]
      rw [this, Fin.card_Iio]
    rw [hcount] at hc
    exact absurd hp (not_lt.mpr hc)

end Cert.Proof.Ranks

end
-- ==== Proof.Pixels.lean ====
/-
  The pixels of an image in row-major order, and the two orders in which the programs list them.
-/
module

public import Idealize.ShloMosaic.PureOps.Ideal
public import Idealize.ShloMosaic.Lib.SortFacts
public import Idealize.ShloMosaic.Lib.Pointwise

@[expose] public section

noncomputable section

namespace Cert.Proof.Pixels

open Idealize.ShloMosaic

/-- An image's pixel at a row-major position. -/
def flat (a : (⟨4, ![1, 1, 512, 512]⟩ : Shape).Idx → EReal) (p : Fin 262144) : EReal :=
  a (ix4 0 0 ⟨p.val / 512, Nat.div_lt_of_lt_mul p.isLt⟩ ⟨p.val % 512, Nat.mod_lt _ (by norm_num)⟩)

/-- The pixels from the highest score down, a tie in the order of positions. -/
def desc (x : Fin 262144 → EReal) : Fin 262144 → Fin 262144 := sortedFrom fun p q => decide (x q < x p)

/-- The pixels from the lowest score up, a tie in the order of positions. -/
def asc (x : Fin 262144 → EReal) : Fin 262144 → Fin 262144 := sortedFrom fun p q => decide (x p < x q)

/-- One of the first 2048 of the list from the highest score down. -/
def top (x : Fin 262144 → EReal) (j : Fin 2048) : Fin 262144 := desc x (j.castLE (by norm_num))

/-- One of the first 2048 of the list from the lowest score up. -/
def bot (x : Fin 262144 → EReal) (j : Fin 2048) : Fin 262144 := asc x (j.castLE (by norm_num))

end Cert.Proof.Pixels

end
-- ==== Proof.Tables.lean ====
/-
  The two tables of scores as plain mathematics, and the counting by which a list of pixels stands in for all of them.
-/
module

public import proofs.«01_k».proof.Proof.Ranks
public import proofs.«01_k».proof.Proof.Pixels
public import Idealize.ShloMosaic.PureOps.Ideal.Laws

@[expose] public section

set_option maxRecDepth 16384

noncomputable section

namespace Cert.Proof.Tables

open Idealize.ShloMosaic Cert.Proof.Ranks Cert.Proof.Pixels

/-- `a` comes after `b` when the pixels are put in order of score, a tie in order of position. -/
abbrev after (x : Fin 262144 → EReal) (a b : Fin 262144) : Prop := before x b a

/-- The 200 sizes: 10, 20, …, 2000. -/
def size (k : Fin 200) : ℕ := 10 * (k.val + 1)

/-- No size is above 2000. -/
theorem size_le (k : Fin 200) : size k ≤ 2000 := by unfold size; omega

/-- One score: a hundred times the sum of the weights of the pixels whose rank is below the size, over the size. -/
def share (r : Fin 262144 → Fin 262144 → Prop) [DecidableRel r] (w : Fin 262144 → EReal) (k : Fin 200) : EReal :=
  Ideal.div (Ideal.ofBits .f32 1120403456#32 * ∑ p, if rank r p < size k then w p else 0) (((size k : ℕ) : ℝ) : EReal)

/-- A sum of ones over the indices that satisfy a condition is their number. -/
theorem sum_ones {n : ℕ} (P : Fin n → Prop) [DecidablePred P] :
    (∑ i, if P i then (1 : EReal) else 0) = (((Finset.univ.filter P).card : ℝ) : EReal) := by
  rw [Finset.sum_boole]
  rfl

/-- Numbers compare the same as extended reals. -/
theorem nat_lt (a b : ℕ) : (((a : ℝ) : EReal) < ((b : ℝ) : EReal)) ↔ a < b := by
  rw [EReal.coe_lt_coe_iff, Nat.cast_lt]

/-- A weight times a truth value is the weight or zero. -/
theorem truth_mul (P : Prop) [Decidable P] (w : EReal) : (if P then (1 : EReal) else 0) * w = if P then w else 0 := by
  split <;> simp

/-- A score from a list of pixels: the ranks are counted among the listed pixels only. -/
theorem share_of_list {r : Fin 262144 → Fin 262144 → Prop} [DecidableRel r] (h : Strict r) {K : ℕ} (T : Fin K → Fin 262144)
    (hT : Function.Injective T) (hM : ∀ p, rank r p < 2000 → ∃ k, T k = p) (w : Fin 262144 → EReal) (k : Fin 200) :
    Ideal.div (Ideal.ofBits .f32 1120403456#32 * ∑ j, (if ((listRank r T j : ℝ) : EReal) < ((size k : ℝ) : EReal) then (1 : EReal) else 0) * w (T j))
      ((size k : ℝ) : EReal) = share r w k := by
  unfold share
  simp only [truth_mul, nat_lt]
  rw [sum_listRank h T hT hM (size_le k)]

/-- The 2000th highest score is above the 2049th highest one. -/
def Gap (x : Fin 262144 → EReal) : Prop := x (desc x ⟨2048, by norm_num⟩) < x (desc x ⟨1999, by norm_num⟩)

/-- The list of the 2048 pixels of highest score holds no pixel twice. -/
theorem top_injective (x : Fin 262144 → EReal) : Function.Injective (top x) := fun _ _ e =>
  Fin.castLE_injective _ (sortedFrom_injective _ e)

/-- The list of the 2048 pixels of lowest score holds no pixel twice. -/
theorem bot_injective (x : Fin 262144 → EReal) : Function.Injective (bot x) := fun _ _ e =>
  Fin.castLE_injective _ (sortedFrom_injective _ e)

/-- Past a gap, the list of highest scores holds the 2000 last pixels in the order of scores. -/
theorem top_all (x : Fin 262144 → EReal) (hgap : Gap x) (p : Fin 262144) (hp : rank (after x) p < 2000) :
    ∃ k, top x k = p := by
  have h := top_listed (B := fun p q => decide (x q < x p)) (fun _ _ => decide_eq_true_iff) (K := 2048) (M := 2000)
    (by norm_num) (by norm_num) (by norm_num) hgap p hp
  obtain ⟨k, hk⟩ := h
  exact ⟨k, hk⟩

/-- The list of lowest scores holds the 2000 first pixels in the order of scores. -/
theorem bot_all (x : Fin 262144 → EReal) (p : Fin 262144) (hp : rank (before x) p < 2000) : ∃ k, bot x k = p := by
  have h := bottom_listed (B := fun p q => decide (x p < x q)) (fun _ _ => decide_eq_true_iff) (K := 2048) (M := 2000)
    (by norm_num) (by norm_num) p hp
  obtain ⟨k, hk⟩ := h
  exact ⟨k, hk⟩

end Cert.Proof.Tables

end
-- ==== Proof.Border.lean ====
/-
  The precondition as mathematics: the 2000th highest score is above the 2049th highest one.
-/
module

public import proofs.«01_k».proof.Pre_top_border_distinct
public import proofs.«01_k».proof.Proof.Sorts
public import proofs.«01_k».proof.Proof.Tables
public import Idealize.ShloMosaic.Lib.Pointwise

@[expose] public section

set_option maxRecDepth 16384

noncomputable section

namespace Cert.Proof.Border

open Cert.Pre_top_border_distinct Idealize.ShloMosaic Cert.Proof.Pixels Cert.Proof.Tables

/-- The shape relations the precondition's operations take. -/
theorem facts : Facts where
  shapeCasts_S1x1x512x512_S262144 := by decide
  sliceFits_S262144_S2049 := by decide
  slices_S2049_S1_1999 := by decide
  slices_S2049_S1_2048 := by decide

/-- The 2049 highest scores, in order. -/
theorem list_read [Facts] (x : FVec Ideal S262144 .f32) (y : Fin 262144 → EReal) (hx : ∀ p, x (ix1 p) = y p) (j : Fin 2049) :
    (Host.topK S2049 0 (FloatOps.cmpfTotal .gt) x Facts.sliceFits_S262144_S2049).1 (ix1 j) = y (desc y (j.castLE (by norm_num))) := by
  simp only [ix1_eq_valueIdx] at hx ⊢
  have h := Sorts.topK_read (n := 262144) (k := 2049) (FloatOps.cmpfTotal (F := Ideal) (φ := .f32) .gt) x Facts.sliceFits_S262144_S2049
    (by norm_num) (fun p q => decide (y q < y p)) (fun a b => by rw [hx, hx]; exact Sorts.gt_one _ _) j
  exact h.1.trans (hx _)

/-- Where the precondition holds there is a gap between the 2000th and the 2049th highest score. -/
theorem gap_of_pre [Facts] (a b : FVec Ideal S1x1x512x512 .f32) (h : fn (F := Ideal) a b = fun _ => 1#1) : Gap (flat a) := by
  have h0 := congrFun h (ix1 0)
  unfold fn at h0
  have e : ∀ v : FVec Ideal S2049 .f32, cmpf .ogt (extractStridedSlice S1 ![1999] v Facts.slices_S2049_S1_1999)
      (extractStridedSlice S1 ![2048] v Facts.slices_S2049_S1_2048) (ix1 0) = 1#1 →
      v (ix1 ⟨2048, by norm_num⟩) < v (ix1 ⟨1999, by norm_num⟩) := by
    intro v hv
    pointwise at hv
    by_contra hn
    have hn' : ¬ v (ix1 2048) < v (ix1 1999) := hn
    rw [decide_eq_false hn'] at hv
    exact absurd hv (by decide)
  have h1 := e _ h0
  beta_reduce at h1
  rw [list_read _ (flat a) ?_, list_read _ (flat a) ?_] at h1
  · exact h1
  · intro p
    pointwise
    rfl
  · intro p
    pointwise
    rfl

end Cert.Proof.Border

end
-- ==== Proof.Pay.lean ====
/-
  What the kernel's body computes, entry by entry: the count of listed pixels that precede a given one, and one
  entry of each of the two score tables.
-/
module

public import proofs.«01_k».proof.Proof.Gen.KernelIdeal.Frame
public import Idealize.ShloMosaic.Lib.Pointwise
public import Idealize.ShloMosaic.Lib.IdealHost

@[expose] public section

set_option maxRecDepth 16384

noncomputable section

namespace Cert.Proof.Pay

open Cert.KernelIdeal Cert.KernelIdeal.Gen Idealize.ShloMosaic

/-- A truth value widened to 32 bits and converted to a float is one or zero. -/
theorem bit_signed (b : Bool) : FloatOps.sitofp (F := Ideal) .f32 (BitVec.setWidth 32 (BitVec.ofBool b)) = if b then (1 : EReal) else 0 := by
  cases b
  · show (((BitVec.setWidth 32 (BitVec.ofBool false)).toInt : ℝ) : EReal) = _
    rw [show (BitVec.setWidth 32 (BitVec.ofBool false)).toInt = 0 by decide]
    simp
  · show (((BitVec.setWidth 32 (BitVec.ofBool true)).toInt : ℝ) : EReal) = _
    rw [show (BitVec.setWidth 32 (BitVec.ofBool true)).toInt = 1 by decide]
    simp

/-- A truth value converted to a float is one or zero. -/
theorem bit_unsigned (b : Bool) : FloatOps.uitofp (F := Ideal) .f32 (BitVec.ofBool b) = if b then (1 : EReal) else 0 := by
  cases b
  · show (((BitVec.ofBool false).toNat : ℝ) : EReal) = _
    simp
  · show (((BitVec.ofBool true).toNat : ℝ) : EReal) = _
    simp

/-- Three truth values joined as words: the first, or both of the others. -/
theorem join_words (a b c : Bool) :
    IntOp.ori (BitVec.ofBool a) (IntOp.andi (BitVec.ofBool b) (BitVec.ofBool c)) = BitVec.ofBool (a || (b && c)) := by
  cases a <;> cases b <;> cases c <;> rfl

/-- The first loop's block at row `r`: how many listed pixels have a greater value than the row's pixel, or the same
    value and a greater position. -/
theorem pay4_apply (v2 : Vec Ideal S1x2048 .f32) (v4 : Vec Ideal S1x2048 .i32) (v46 : Vec Ideal S128x1 .f32)
    (v50 : Vec Ideal S128x1 .i32) (r : Fin 128) :
    k0_pay4 v2 v4 v46 v50 (ix2 r 0) = ∑ x : Fin 2048, if v46 (ix2 r 0) < v2 (ix2 0 x)
      ∨ v2 (ix2 0 x) = v46 (ix2 r 0) ∧ (v50 (ix2 r 0)).toInt < (v4 (ix2 0 x)).toInt then (1 : EReal) else 0 := by
  pointwise [k0_pay4]
  refine Finset.sum_congr rfl fun x _ => ?_
  rw [show IntOp.cmpi CmpIPredicate.sgt (v4 (ix2 0 x)) (v50 (ix2 r 0))
    = BitVec.ofBool ((v50 (ix2 r 0)).slt (v4 (ix2 0 x))) from rfl, join_words, bit_signed]
  simp [BitVec.slt]

/-- The second loop's block at row `r`: how many listed pixels have a smaller value than the row's pixel, or the same
    value and a smaller position. -/
theorem pay5_apply (v2 : Vec Ideal S1x2048 .f32) (v4 : Vec Ideal S1x2048 .i32) (v46 : Vec Ideal S128x1 .f32)
    (v50 : Vec Ideal S128x1 .i32) (r : Fin 128) :
    k0_pay5 v2 v4 v46 v50 (ix2 r 0) = ∑ x : Fin 2048, if v2 (ix2 0 x) < v46 (ix2 r 0)
      ∨ v2 (ix2 0 x) = v46 (ix2 r 0) ∧ (v4 (ix2 0 x)).toInt < (v50 (ix2 r 0)).toInt then (1 : EReal) else 0 := by
  pointwise [k0_pay5]
  refine Finset.sum_congr rfl fun x _ => ?_
  rw [show IntOp.cmpi CmpIPredicate.slt (v4 (ix2 0 x)) (v50 (ix2 r 0))
    = BitVec.ofBool ((v4 (ix2 0 x)).slt (v50 (ix2 r 0))) from rfl, join_words, bit_signed]
  simp [BitVec.slt]

/-- One table's entry: 100 times the sum of the listed weights whose count is below the number of seeds, over that
    number. -/
def score (zs : Vec Ideal S1x200 .f32) (t g : Vec Ideal S2048x1 .f32) (k : Fin 200) : EReal :=
  Ideal.div (Ideal.ofBits .f32 1120403456#32 * ∑ j : Fin 2048, (if t (ix2 j 0) < zs (ix2 0 k) then (1 : EReal) else 0) * g (ix2 j 0))
    (zs (ix2 0 k))

/-- The first stored table is the score of the first list. -/
theorem pay17_apply (v0 : Vec Ideal S1x200 .f32) (v12 v24 : Vec Ideal S2048x1 .f32) (k : Fin 200) :
    k0_pay1 (k0_pay3 v0) (k0_pay7 v0 v12 v24) (ix2 0 k) = score v0 v12 v24 k := by
  pointwise [k0_pay1, k0_pay7, k0_pay3]
  simp only [bit_signed, decide_eq_true_eq, score]

/-- The second stored table is the score of the second list. -/
theorem pay26_apply (v0 : Vec Ideal S1x200 .f32) (v13 v30 : Vec Ideal S2048x1 .f32) (k : Fin 200) :
    k0_pay2 (k0_pay3 v0) (k0_pay6 v0 v13) v30 (ix2 0 k) = score v0 v13 v30 k := by
  pointwise [k0_pay2, k0_pay6, k0_pay3]
  simp only [bit_signed, decide_eq_true_eq, score]

end Cert.Proof.Pay
-- ==== Proof.KernelBody.lean ====
/-
  What the kernel's body leaves in its two output windows, as a function of the blocks it is given.
-/
module

public import proofs.«01_k».proof.Proof.Pay

@[expose] public section

set_option maxRecDepth 16384

noncomputable section

namespace Cert.Proof.KernelBody

open Cert.KernelIdeal Cert.KernelIdeal.Gen Idealize.ShloMosaic Cert.Proof.Pay

/-- Blocks of 128 rows stored one after another, each a part of one function of the whole column, leave that
    function. -/
theorem canon_blocks {e : EltTy} {N : ℕ} (hN : N = 16) (o : Fin N → Fin 2 → ℕ) (ho : ∀ k, o k = ![128 * k.val, 0])
    (inb : ∀ k a, o k a + S128x1.size a ≤ S2048x1.size a) (G : Vec Ideal S2048x1 e)
    (w : (k : Fin N) → (Rect.unit (s := S2048x1) (o k) S128x1.size (inb k)).shape.Idx → Elt Ideal e)
    (hw : ∀ k x, w k x = G ((Rect.unit (s := S2048x1) (o k) S128x1.size (inb k)).emb x))
    (L : ℕ → List (View.Piece (Elt Ideal) S2048x1 e)) (h0 : L 0 = [])
    (hs : ∀ k : Fin N, L (k.val + 1) = [⟨Rect.unit (s := S2048x1) (o k) S128x1.size (inb k), w k⟩] ++ L k.val) :
    View.canon (L N) = G := by
  have key : ∀ n, n ≤ N → (∀ p ∈ L n, ∀ x : p.1.shape.Idx, p.2 x = G (p.1.emb x)) ∧
      ∀ k : Fin N, k.val < n → (⟨Rect.unit (s := S2048x1) (o k) S128x1.size (inb k), w k⟩ : View.Piece (Elt Ideal) S2048x1 e) ∈ L n := by
    intro n
    induction n with
    | zero => exact fun _ => ⟨fun p hp => absurd hp (by rw [h0]; exact List.not_mem_nil), fun k hk => absurd hk (by omega)⟩
    | succ n ih =>
      intro hn
      obtain ⟨a, b⟩ := ih (by omega)
      rw [hs ⟨n, by omega⟩]
      refine ⟨fun p hp => ?_, fun k hk => ?_⟩
      · rcases List.mem_cons.mp hp with rfl | hp'
        · exact hw _
        · exact a p hp'
      · rcases Nat.lt_or_ge k.val n with h | h
        · exact List.mem_cons_of_mem _ (b k h)
        · have hkn : k = ⟨n, by omega⟩ := Fin.ext (by simp; omega)
          rw [hkn]
          exact List.mem_cons_self
  obtain ⟨a, b⟩ := key N le_rfl
  funext y
  refine View.canon_apply_of_pieces G (L N) a y ?_
  have hy0 : (y 0).val < 2048 := (y 0).isLt
  have hy1 : (y 1).val < 1 := (y 1).isLt
  refine ⟨_, b ⟨(y 0).val / 128, by omega⟩ (by simp; omega), ?_⟩
  rw [Rect.mem_set_unit]
  intro a
  rw [ho]
  fin_cases a
  · show 128 * ((y 0).val / 128) ≤ (y 0).val ∧ (y 0).val < 128 * ((y 0).val / 128) + 128
    omega
  · show 0 ≤ (y 1).val ∧ (y 1).val < 0 + 1
    omega

/-- For each listed pixel, how many of the listed ones have a higher score, or the same score at a larger position. -/
def above (x0 : Vec Ideal S1x2048 .f32) (x1 : Vec Ideal S2048x1 .f32) (x2 : Vec Ideal S1x2048 .i32)
    (x3 : Vec Ideal S2048x1 .i32) : Vec Ideal S2048x1 .f32 := fun i =>
  ∑ x : Fin 2048, if x1 i < x0 (ix2 0 x) ∨ x0 (ix2 0 x) = x1 i ∧ (x3 i).toInt < (x2 (ix2 0 x)).toInt then (1 : EReal) else 0

/-- For each listed pixel, how many of the listed ones have a lower score, or the same score at a smaller position. -/
def below (x0 : Vec Ideal S1x2048 .f32) (x1 : Vec Ideal S2048x1 .f32) (x2 : Vec Ideal S1x2048 .i32)
    (x3 : Vec Ideal S2048x1 .i32) : Vec Ideal S2048x1 .f32 := fun i =>
  ∑ x : Fin 2048, if x0 (ix2 0 x) < x1 i ∨ x0 (ix2 0 x) = x1 i ∧ (x2 (ix2 0 x)).toInt < (x3 i).toInt then (1 : EReal) else 0

/-- An index of a column is its row. -/
theorem col_eq {n : ℕ} (x : (⟨2, ![n, 1]⟩ : Shape).Idx) : x = ix2 (x 0) 0 := by
  have h1 : (x 1).val < 1 := (x 1).isLt
  funext a
  fin_cases a
  · rfl
  · exact Fin.ext (by show (x 1).val = 0; omega)

/-- A load of a whole buffer at offset zero reads its contents. -/
theorem ld_zero {s : Shape} {e : EltTy} {off : Fin s.rank → ℕ} (h : ∀ a, off a = 0) (inb : ∀ a, off a + s.size a ≤ s.size a)
    (x : Vec Ideal s e) : View.ld (Val := Elt Ideal) x (Rect.unit off s.size inb) = x :=
  View.ld_unit_zero (funext h) inb x

/-- A load of a whole buffer at offset zero, after stores, reads what the stores leave. -/
theorem readCov_zero {s : Shape} {e : EltTy} {sp : Space} (v : View sig .tc sp s e) (L : List (View.Piece (Elt Ideal) s e))
    {off : Fin s.rank → ℕ} (h : ∀ a, off a = 0) (inb : ∀ a, off a + s.size a ≤ s.size a) :
    v.readCov L (Rect.unit off s.size inb).toLoadRect = View.canon L := by
  rw [View.readCov_eq_canon']
  exact ld_zero h inb (View.canon L)

/-! In what follows the body runs on any fifteen whole buffers: eleven inputs, two outputs and two scratch columns. -/

variable (a0 : Memref sig .tc .vmem S1x2048 .f32) (h0 : a0.IsWhole) (a1 : Memref sig .tc .vmem S2048x1 .f32) (h1 : a1.IsWhole) (a2 : Memref sig .tc .vmem S1x2048 .i32) (h2 : a2.IsWhole) (a3 : Memref sig .tc .vmem S2048x1 .i32) (h3 : a3.IsWhole) (a4 : Memref sig .tc .vmem S2048x1 .f32) (h4 : a4.IsWhole) (a5 : Memref sig .tc .vmem S1x2048 .f32) (h5 : a5.IsWhole) (a6 : Memref sig .tc .vmem S2048x1 .f32) (h6 : a6.IsWhole) (a7 : Memref sig .tc .vmem S1x2048 .i32) (h7 : a7.IsWhole) (a8 : Memref sig .tc .vmem S2048x1 .i32) (h8 : a8.IsWhole) (a9 : Memref sig .tc .vmem S2048x1 .f32) (h9 : a9.IsWhole) (a10 : Memref sig .tc .vmem S1x200 .f32) (h10 : a10.IsWhole) (a11 : Memref sig .tc .vmem S1x200 .f32) (h11 : a11.IsWhole) (a12 : Memref sig .tc .vmem S1x200 .f32) (h12 : a12.IsWhole) (a13 : Memref sig .tc .vmem S2048x1 .f32) (h13 : a13.IsWhole) (a14 : Memref sig .tc .vmem S2048x1 .f32) (h14 : a14.IsWhole)

/-- After its sixteen trips the first counting loop leaves, for every listed pixel, how many precede it. -/
theorem scratch_first (𝒱 : Variants) (c : Dev nD) (bd : Option 𝒱.V) (v : Vec Ideal S1x2048 .f32) (i : Vec Ideal S1x2048 .i32)
    (x : Vec Ideal S2048x1 .f32) (y : Vec Ideal S2048x1 .i32) :
    View.canon (pb_k0_t1 (F := Ideal) 𝒱 c bd a0 h0 a1 h1 a2 h2 a3 h3 a4 h4 a5 h5 a6 h6 a7 h7 a8 h8 a9 h9 a10 h10 a11 h11 a12 h12 a13 h13 a14 h14 v i (h1.unread x) (h3.unread y) k0_t1_loop.trips) = above v x i y := by
  refine canon_blocks (e := .f32) (by decide) (fun k => k0_off1 k) k0_off1_eq (fun k => k0_off1_inb k) _ (fun k =>
    k0_pay4 v i (View.ld (Val := Elt Ideal) x (Rect.unit (s := S2048x1) (k0_off1 k) S128x1.size (k0_off1_inb k)))
      (View.ld (Val := Elt Ideal) y (Rect.unit (s := S2048x1) (k0_off1 k) S128x1.size (k0_off1_inb k)))) ?_ _ ?_ ?_
  · intro k z
    rw [col_eq z]
    exact pay4_apply _ _ _ _ _
  · rfl
  · intro k
    rw [pb_k0_t1_succ]
    unfold tripL_k0_t1 trip_k0_t1
    dsimp only
    simp only [View.readAt_eq_ld, Memref.IsWhole.read_unread]

/-- What the body leaves in the first output window: the first table of scores. -/
theorem out_first (c : Dev nD) (x0 : Vec Ideal S1x2048 .f32) (x1 : Vec Ideal S2048x1 .f32) (x2 : Vec Ideal S1x2048 .i32)
    (x3 : Vec Ideal S2048x1 .i32) (x4 : Vec Ideal S2048x1 .f32) (x5 : Vec Ideal S1x2048 .f32) (x6 : Vec Ideal S2048x1 .f32)
    (x7 : Vec Ideal S1x2048 .i32) (x8 : Vec Ideal S2048x1 .i32) (x9 : Vec Ideal S2048x1 .f32) (x10 : Vec Ideal S1x200 .f32) (k : Fin 200) :
    out0_A_11 c a0 h0 a1 h1 a2 h2 a3 h3 a4 h4 a5 h5 a6 h6 a7 h7 a8 h8 a9 h9 a10 h10 a11 h11 a12 h12 a13 h13 a14 h14 x0 x1 x2 x3 x4 x5 x6 x7 x8 x9 x10 (ix2 0 k)
      = score x10 (above x0 x1 x2 x3) x4 k := by
  unfold out0_A_11 kernelRun0_A
  dsimp only
  sl_unfold_words
  rw [View.read_writes_junk_eq_canon, View.canon_unit_zero (by decide), pay17_apply]
  simp only [View.readAt_eq_ld, Memref.IsWhole.read_unread]
  rw [readCov_zero _ _ (by decide), ld_zero (by decide), ld_zero (by decide), ld_zero (by decide), ld_zero (by decide)]
  rw [show Scf.trips k0_t1_loop.lb k0_t1_loop.ub k0_t1_loop.st = k0_t1_loop.trips from rfl, scratch_first]

/-- After its sixteen trips the second counting loop leaves, for every listed pixel, how many precede it. -/
theorem scratch_second (𝒱 : Variants) (c : Dev nD) (bd : Option 𝒱.V) (v : Vec Ideal S1x2048 .f32) (i : Vec Ideal S1x2048 .i32)
    (x : Vec Ideal S2048x1 .f32) (y : Vec Ideal S2048x1 .i32) :
    View.canon (pb_k0_t2 (F := Ideal) 𝒱 c bd a0 h0 a1 h1 a2 h2 a3 h3 a4 h4 a5 h5 a6 h6 a7 h7 a8 h8 a9 h9 a10 h10 a11 h11 a12 h12 a13 h13 a14 h14 v i (h6.unread x) (h8.unread y) k0_t2_loop.trips) = below v x i y := by
  refine canon_blocks (e := .f32) (by decide) (fun k => k0_off2 k) k0_off2_eq (fun k => k0_off2_inb k) _ (fun k =>
    k0_pay5 v i (View.ld (Val := Elt Ideal) x (Rect.unit (s := S2048x1) (k0_off2 k) S128x1.size (k0_off2_inb k)))
      (View.ld (Val := Elt Ideal) y (Rect.unit (s := S2048x1) (k0_off2 k) S128x1.size (k0_off2_inb k)))) ?_ _ ?_ ?_
  · intro k z
    rw [col_eq z]
    exact pay5_apply _ _ _ _ _
  · rfl
  · intro k
    rw [pb_k0_t2_succ]
    unfold tripL_k0_t2 trip_k0_t2
    dsimp only
    simp only [View.readAt_eq_ld, Memref.IsWhole.read_unread]

/-- What the body leaves in the second output window: the second table of scores. -/
theorem out_second (c : Dev nD) (x0 : Vec Ideal S1x2048 .f32) (x1 : Vec Ideal S2048x1 .f32) (x2 : Vec Ideal S1x2048 .i32)
    (x3 : Vec Ideal S2048x1 .i32) (x4 : Vec Ideal S2048x1 .f32) (x5 : Vec Ideal S1x2048 .f32) (x6 : Vec Ideal S2048x1 .f32)
    (x7 : Vec Ideal S1x2048 .i32) (x8 : Vec Ideal S2048x1 .i32) (x9 : Vec Ideal S2048x1 .f32) (x10 : Vec Ideal S1x200 .f32) (k : Fin 200) :
    out0_A_12 c a0 h0 a1 h1 a2 h2 a3 h3 a4 h4 a5 h5 a6 h6 a7 h7 a8 h8 a9 h9 a10 h10 a11 h11 a12 h12 a13 h13 a14 h14 x0 x1 x2 x3 x4 x5 x6 x7 x8 x9 x10 (ix2 0 k)
      = score x10 (below x5 x6 x7 x8) x9 k := by
  unfold out0_A_12 kernelRun0_A
  dsimp only
  sl_unfold_words
  rw [View.read_writes_junk_eq_canon, View.canon_unit_zero (by decide), pay26_apply]
  simp only [View.readAt_eq_ld, Memref.IsWhole.read_unread]
  rw [readCov_zero _ _ (by decide), ld_zero (by decide), ld_zero (by decide), ld_zero (by decide), ld_zero (by decide)]
  rw [show Scf.trips k0_t2_loop.lb k0_t2_loop.ub k0_t2_loop.st = k0_t2_loop.trips from rfl, scratch_second]

end Cert.Proof.KernelBody
-- ==== Proof.KernelRun.lean ====
/-
  The kernel's run: what its three results hold at the end, in terms of what the region finds in its input arrays.
-/
module

public import proofs.«01_k».proof.Proof.KernelBody
public import Idealize.ShloMosaic.Lib.Pipeline.ValueKit
public import Idealize.ShloMosaic.Lib.StableHlo.ReadAt

@[expose] public section

set_option maxRecDepth 16384

noncomputable section

namespace Cert.Proof.KernelRun

open Cert.KernelIdeal Cert.KernelIdeal.Gen Idealize.ShloMosaic Cert.Proof.Pay Cert.Proof.KernelBody
open Idealize.ShloMosaic.TcCoe

variable (m : (ℓ : Loc nD τ sig) → Buf (Elt Ideal) ℓ) (g : Dev nD → PrngReg) (c : Dev nD) (t : Fin cfg0.N)

/-- Input window 0 is its whole array. -/
theorem iblk_0 : iblk m c 0 t = V m c main_call0_v21 := by
  funext j
  unfold iblk
  blk_simp
  congr 1
  funext a
  apply Fin.ext
  refine (Pipeline.Window.rect_emb_val win0_0 t j a rfl).trans ?_
  show 0 * _ + (j a : ℕ) = _
  omega

/-- Input window 1 is its whole array. -/
theorem iblk_1 : iblk m c 1 t = V m c main_call0_v22 := by
  funext j
  unfold iblk
  blk_simp
  congr 1
  funext a
  apply Fin.ext
  refine (Pipeline.Window.rect_emb_val win0_1 t j a rfl).trans ?_
  show 0 * _ + (j a : ℕ) = _
  omega

/-- Input window 2 is its whole array. -/
theorem iblk_2 : iblk m c 2 t = V m c main_call0_v23 := by
  funext j
  unfold iblk
  blk_simp
  congr 1
  funext a
  apply Fin.ext
  refine (Pipeline.Window.rect_emb_val win0_2 t j a rfl).trans ?_
  show 0 * _ + (j a : ℕ) = _
  omega

/-- Input window 3 is its whole array. -/
theorem iblk_3 : iblk m c 3 t = V m c main_call0_v24 := by
  funext j
  unfold iblk
  blk_simp
  congr 1
  funext a
  apply Fin.ext
  refine (Pipeline.Window.rect_emb_val win0_3 t j a rfl).trans ?_
  show 0 * _ + (j a : ℕ) = _
  omega

/-- Input window 4 is its whole array. -/
theorem iblk_4 : iblk m c 4 t = V m c main_call0_v25 := by
  funext j
  unfold iblk
  blk_simp
  congr 1
  funext a
  apply Fin.ext
  refine (Pipeline.Window.rect_emb_val win0_4 t j a rfl).trans ?_
  show 0 * _ + (j a : ℕ) = _
  omega

/-- Input window 5 is its whole array. -/
theorem iblk_5 : iblk m c 5 t = V m c main_call0_v26 := by
  funext j
  unfold iblk
  blk_simp
  congr 1
  funext a
  apply Fin.ext
  refine (Pipeline.Window.rect_emb_val win0_5 t j a rfl).trans ?_
  show 0 * _ + (j a : ℕ) = _
  omega

/-- Input window 6 is its whole array. -/
theorem iblk_6 : iblk m c 6 t = V m c main_call0_v27 := by
  funext j
  unfold iblk
  blk_simp
  congr 1
  funext a
  apply Fin.ext
  refine (Pipeline.Window.rect_emb_val win0_6 t j a rfl).trans ?_
  show 0 * _ + (j a : ℕ) = _
  omega

/-- Input window 7 is its whole array. -/
theorem iblk_7 : iblk m c 7 t = V m c main_call0_v28 := by
  funext j
  unfold iblk
  blk_simp
  congr 1
  funext a
  apply Fin.ext
  refine (Pipeline.Window.rect_emb_val win0_7 t j a rfl).trans ?_
  show 0 * _ + (j a : ℕ) = _
  omega

/-- Input window 8 is its whole array. -/
theorem iblk_8 : iblk m c 8 t = V m c main_call0_v29 := by
  funext j
  unfold iblk
  blk_simp
  congr 1
  funext a
  apply Fin.ext
  refine (Pipeline.Window.rect_emb_val win0_8 t j a rfl).trans ?_
  show 0 * _ + (j a : ℕ) = _
  omega

/-- Input window 9 is its whole array. -/
theorem iblk_9 : iblk m c 9 t = V m c main_call0_v30 := by
  funext j
  unfold iblk
  blk_simp
  congr 1
  funext a
  apply Fin.ext
  refine (Pipeline.Window.rect_emb_val win0_9 t j a rfl).trans ?_
  show 0 * _ + (j a : ℕ) = _
  omega

/-- Input window 10 is its whole array. -/
theorem iblk_10 : iblk m c 10 t = V m c main_call0_v20 := by
  funext j
  unfold iblk
  blk_simp
  congr 1
  funext a
  apply Fin.ext
  refine (Pipeline.Window.rect_emb_val win0_10 t j a rfl).trans ?_
  show 0 * _ + (j a : ℕ) = _
  omega

/-- The region's one grid point. -/
def p0 : Fin cfg0.N := ⟨0, by decide⟩

/-- The first output array after the region is what the body leaves in its window. -/
theorem array_first : (dats m 0 c).arrAt 11 cfg0.N = (outsAt0 m c p0).1 := by
  refine (dats m 0 c).arrAt_eq_of_after_last 11 p0 (by decide +kernel) _ fun j => ?_
  blk_simp
  exact congrFun (after0_11 m c p0) _

/-- The second output array after the region is what the body leaves in its window. -/
theorem array_second : (dats m 0 c).arrAt 12 cfg0.N = (outsAt0 m c p0).2 := by
  refine (dats m 0 c).arrAt_eq_of_after_last 12 p0 (by decide +kernel) _ fun j => ?_
  blk_simp
  exact congrFun (after0_12 m c p0) _

/-- The contents of the buffers as the operations after the region find them. -/
def exitV (c : Dev nD) : Valuation τ sig (Elt Ideal) :=
  Pipeline.withArrays (cfgs 0).spec c (V0 m c) fun w => (dats m 0 c).arrAt w (cfgs 0).N

/-- The region leaves the body's first block in its first output array. -/
theorem exit_first : exitV m c (Proc.devRef .tc main_call0_v31_0) = (outsAt0 m c p0).1 :=
  (Pipeline.withArrays_arr spec0 (by decide) c (V0 m c) _ 11).trans (array_first m c)

/-- The region leaves the body's second block in its second output array. -/
theorem exit_second : exitV m c (Proc.devRef .tc main_call0_v31_1) = (outsAt0 m c p0).2 :=
  (Pipeline.withArrays_arr spec0 (by decide) c (V0 m c) _ 12).trans (array_second m c)

/-- The first table of scores, as the region's input arrays give it. -/
def first (c : Dev nD) : FVec Ideal S200 .f32 := fun i =>
  score (V m c main_call0_v20) (above (V m c main_call0_v21) (V m c main_call0_v22) (V m c main_call0_v23) (V m c main_call0_v24))
    (V m c main_call0_v25) (i 0)

/-- The second table of scores, as the region's input arrays give it. -/
def second (c : Dev nD) : FVec Ideal S200 .f32 := fun i =>
  score (V m c main_call0_v20) (below (V m c main_call0_v26) (V m c main_call0_v27) (V m c main_call0_v28) (V m c main_call0_v29))
    (V m c main_call0_v30) (i 0)

/-- The body's first block is the first table, laid out as a row. -/
theorem body_first (k : Fin 200) : (outsAt0 m c p0).1 (ix2 0 k) = first m c (ix1 k) := by
  unfold outsAt0
  dsimp only
  rw [out_first, iblk_0, iblk_1, iblk_2, iblk_3, iblk_4, iblk_10]
  rfl

/-- The body's second block is the second table, laid out as a row. -/
theorem body_second (k : Fin 200) : (outsAt0 m c p0).2 (ix2 0 k) = second m c (ix1 k) := by
  unfold outsAt0
  dsimp only
  rw [out_second, iblk_5, iblk_6, iblk_7, iblk_8, iblk_9, iblk_10]
  rfl

/-- The first result at the end. -/
theorem final_first : Pipeline.afterTail₀ cfgs (dats m) 0 (V0 m) [hostOps1] c main_v0_0 = first m c := by
  show StableHlo.after hostOps1 (exitV m c) (Proc.devRef .tc main_v0_0) = _
  refine funext fun (j : S200.Idx) => ?_
  obtain ⟨k, rfl⟩ : ∃ k : Fin 200, j = ix1 k := ⟨j 0, eq_ix1 j⟩
  rw [← body_first, ← exit_first]
  after_reads_at

/-- The second result at the end. -/
theorem final_second : Pipeline.afterTail₀ cfgs (dats m) 0 (V0 m) [hostOps1] c main_v0_1 = second m c := by
  show StableHlo.after hostOps1 (exitV m c) (Proc.devRef .tc main_v0_1) = _
  refine funext fun (j : S200.Idx) => ?_
  obtain ⟨k, rfl⟩ : ∃ k : Fin 200, j = ix1 k := ⟨j 0, eq_ix1 j⟩
  rw [← body_second, ← exit_second]
  after_reads_at

/-- The third result at the end is what the operations before the region leave. -/
theorem final_third : Pipeline.afterTail₀ cfgs (dats m) 0 (V0 m) [hostOps1] c main_v0_2 = V m c main_v0_2 := by
  show StableHlo.after hostOps1 (exitV m c) (Proc.devRef .tc main_v0_2) = _
  after_reads_simp
  exact Pipeline.withArrays_of_ne _ c (V0 m c) _ main_v0_2 (by exact (by decide : ∀ w, Pipeline.arrRef spec0 w ≠ main_v0_2))

/-- The run: the three results at the end, and the arguments unchanged. -/
theorem run : θ_run defs (onTc (τ := τ) (main (F := Ideal))) ⟨m, fun _ => 0, g⟩ (fun r => ∀ c : Dev nD,
    r.2.mem ((c.tc : Thread nD τ).loc main_v0_0) = first m c
    ∧ r.2.mem ((c.tc : Thread nD τ).loc main_v0_1) = second m c
    ∧ r.2.mem ((c.tc : Thread nD τ).loc main_v0_2) = V m c main_v0_2
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).2 main_v0_0 (Pipeline.mem_restRefs_of main_v0_0 (by decide) (by decide))).trans (final_first m c),
     ((h c).2 main_v0_1 (Pipeline.mem_restRefs_of main_v0_1 (by decide) (by decide))).trans (final_second m c),
     ((h c).2 main_v0_2 (Pipeline.mem_restRefs_of main_v0_2 (by decide) (by decide))).trans (final_third m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m g)

end Cert.Proof.KernelRun
-- ==== Proof.Constants.lean ====
/-
  The literal tables of the two programs: the numbers 10, 20, …, 2000, as words and as floats.
-/
module

public import proofs.«01_k».proof.KernelIdeal
public import proofs.«01_k».proof.ReferenceIdeal
public import Idealize.ShloMosaic.PureOps.Ideal.Laws

@[expose] public section

set_option maxRecDepth 16384

noncomputable section

namespace Cert.Proof.Constants

open Idealize.ShloMosaic

/-- A positive normal f32 pattern whose significand is a number times the right power of two denotes that number. -/
theorem ofBits_nat (b : BitVec 32) (n : ℕ) (h : (b.extractLsb' 31 1 == 1#1) = false ∧ 0 < (b.extractLsb' 23 8).toNat
    ∧ (b.extractLsb' 23 8).toNat ≤ 150 ∧ 2 ^ 23 + (b.extractLsb' 0 23).toNat = n * 2 ^ (150 - (b.extractLsb' 23 8).toNat)) :
    Ideal.ofBits .f32 b = ((n : ℝ) : EReal) := by
  obtain ⟨h1, h2, h3, h4⟩ := h
  show Ideal.ieee 8 23 b = _
  unfold Ideal.ieee
  simp only [h1, h4]
  rw [if_neg (by omega), if_neg (by omega)]
  refine congrArg Real.toEReal ?_
  have e : ((b.extractLsb' 23 8).toNat : ℤ) - (2 ^ (8 - 1) - 1) - (23 : ℕ) = -((150 - (b.extractLsb' 23 8).toNat : ℕ) : ℤ) := by
    push_cast [h3]
    omega
  rw [e, zpow_neg, zpow_natCast]
  push_cast
  simp

/-- The kernel's table of percentages holds 10, 20, …, 2000. -/
theorem percent (k : Fin 200) : Ideal.ofBits .f32 (Cert.KernelIdeal.lit0 k) = (((10 * (k.val + 1) : ℕ) : ℝ) : EReal) :=
  ofBits_nat _ _ ((by decide +kernel : ∀ k : Fin 200, ((Cert.KernelIdeal.lit0 k).extractLsb' 31 1 == 1#1) = false
    ∧ 0 < ((Cert.KernelIdeal.lit0 k).extractLsb' 23 8).toNat ∧ ((Cert.KernelIdeal.lit0 k).extractLsb' 23 8).toNat ≤ 150
    ∧ 2 ^ 23 + ((Cert.KernelIdeal.lit0 k).extractLsb' 0 23).toNat
      = (10 * (k.val + 1)) * 2 ^ (150 - ((Cert.KernelIdeal.lit0 k).extractLsb' 23 8).toNat)) k)

/-- The reference's table of sizes holds 10, 20, …, 2000. -/
theorem size (k : Fin 200) : Cert.ReferenceIdeal.lit0 k = BitVec.ofNat 32 (10 * (k.val + 1)) :=
  (by decide +kernel : ∀ k : Fin 200, Cert.ReferenceIdeal.lit0 k = BitVec.ofNat 32 (10 * (k.val + 1))) k

/-- The two programs return the same table of sizes. -/
theorem sizes_eq (k : Fin 200) : Cert.KernelIdeal.lit1 k = Cert.ReferenceIdeal.lit1 k :=
  (by decide +kernel : ∀ k : Fin 200, Cert.KernelIdeal.lit1 k = Cert.ReferenceIdeal.lit1 k) k

end Cert.Proof.Constants

end
-- ==== Proof.KernelHost.lean ====
/-
  What the kernel's region finds in its input arrays, in terms of the two images: the listed pixels' scores, positions
  and mask values, and the list of percentages.
-/
module

public import proofs.«01_k».proof.Proof.KernelRun
public import proofs.«01_k».proof.Proof.Sorts
public import proofs.«01_k».proof.Proof.Pixels
public import proofs.«01_k».proof.Proof.Constants
public import Idealize.ShloMosaic.Lib.Routing.OpsPair

@[expose] public section

set_option maxRecDepth 16384

noncomputable section

namespace Cert.Proof.KernelHost

open Cert.KernelIdeal Cert.KernelIdeal.Gen Idealize.ShloMosaic Cert.Proof.Pixels
open Idealize.ShloMosaic.TcCoe

variable (m : (ℓ : Loc nD τ sig) → Buf (Elt Ideal) ℓ) (c : Dev nD)

/-- The scores of a device's pixels. -/
def cam (c : Dev nD) : Fin 262144 → EReal := flat (m ((c.tc : Thread nD τ).loc main_arg0))

/-- The mask values of a device's pixels. -/
def mask (c : Dev nD) : Fin 262144 → EReal := flat (m ((c.tc : Thread nD τ).loc main_arg1))

/-- The listed pixels of highest score, by value and by position. -/
theorem top_read (x : FVec Ideal S262144 .f32) (y : Fin 262144 → EReal) (hx : ∀ p, x (ix1 p) = y p) (j : Fin 2048) :
    (Host.topK S2048 0 (FloatOps.cmpfTotal .gt) x sliceFits_S262144_S2048).1 (ix1 j) = y (top y j)
      ∧ (Host.topK S2048 0 (FloatOps.cmpfTotal .gt) x sliceFits_S262144_S2048).2 (ix1 j) = BitVec.ofNat 32 (top y j).val := by
  simp only [ix1_eq_valueIdx] at hx ⊢
  have h := Sorts.topK_read (n := 262144) (k := 2048) (FloatOps.cmpfTotal (F := Ideal) (φ := .f32) .gt) x sliceFits_S262144_S2048
    (by norm_num) (fun p q => decide (y q < y p)) (fun a b => by rw [hx, hx]; exact Sorts.gt_one _ _) j
  exact ⟨h.1.trans (hx _), h.2⟩

/-- The listed pixels of lowest score, from the top of the negated scores. -/
theorem bot_read (x : FVec Ideal S262144 .f32) (y : Fin 262144 → EReal) (hx : ∀ p, x (ix1 p) = -y p) (j : Fin 2048) :
    (Host.topK S2048 0 (FloatOps.cmpfTotal .gt) x sliceFits_S262144_S2048).1 (ix1 j) = -y (bot y j)
      ∧ (Host.topK S2048 0 (FloatOps.cmpfTotal .gt) x sliceFits_S262144_S2048).2 (ix1 j) = BitVec.ofNat 32 (bot y j).val := by
  simp only [ix1_eq_valueIdx] at hx ⊢
  have h := Sorts.topK_read (n := 262144) (k := 2048) (FloatOps.cmpfTotal (F := Ideal) (φ := .f32) .gt) x sliceFits_S262144_S2048
    (by norm_num) (fun p q => decide (y p < y q)) (fun a b => by rw [hx, hx]; exact Sorts.gt_neg_one _ _) j
  exact ⟨h.1.trans (hx _), h.2⟩

/-- A gather at listed positions, whose negative numbers would count from the end, reads the listed entries. -/
theorem take_read (v : FVec Ideal S262144 .f32) (i : IVec S2048 32) (j : Fin 2048) (p : Fin 262144)
    (hi : i (ix1 j) = BitVec.ofNat 32 p.val) :
    Host.gather gather_S262144_S2048x1_S2048_n_0_n_n_0_1_1 v (broadcastInDim S2048x1 ![0] bcast_S2048_S2048x1_0
      (select (cmpi .slt i (broadcastInDim S2048 ![] bcast_S_S2048 (constantI S_ 32 0#32)))
        (addi i (broadcastInDim S2048 ![] bcast_S_S2048 (constantI S_ 32 262144#32))) i)) (ix1 j) = v (ix1 p) := by
  have hb : broadcastInDim S2048x1 ![0] bcast_S2048_S2048x1_0
      (select (cmpi .slt i (broadcastInDim S2048 ![] bcast_S_S2048 (constantI S_ 32 0#32)))
        (addi i (broadcastInDim S2048 ![] bcast_S_S2048 (constantI S_ 32 262144#32))) i) (ix2 j 0) = BitVec.ofNat 32 p.val := by
    pointwise
    have hp := p.isLt
    rw [hi]
    exact Routing.wrap_of_lt _ _ (by rw [BitVec.toNat_ofNat]; omega)
  rw [ix1_eq_valueIdx, ix1_eq_valueIdx]
  rw [ix2_eq_valueIdx] at hb
  exact Routing.gather_take1 (N := 262144) (n := 2048) gather_S262144_S2048x1_S2048_n_0_n_n_0_1_1 rfl rfl rfl rfl v _ j p hb (by norm_num)

/-- The list of percentages. -/
theorem percent_read (k : Fin 200) : V m c main_call0_v20 (ix2 0 k) = (((10 * (k.val + 1) : ℕ) : ℝ) : EReal) := by
  unfold V V0
  rw [show List.flatten [hostOps0 (F := Ideal)] = hostOps0 from rfl]
  after_reads_at
  rw [show S200.rowMajor (ix1 k) = k from Fin.ext (Shape.rowMajor_val_one _)]
  exact Constants.percent k

/-- The row of the highest scores. -/
theorem top_row (j : Fin 2048) : V m c main_call0_v21 (ix2 0 j) = cam m c (top (cam m c) j) := by
  unfold V V0
  rw [show List.flatten [hostOps0 (F := Ideal)] = hostOps0 from rfl]
  after_reads_at
  exact (top_read _ (cam m c) (fun _ => rfl) j).1

/-- The column of the highest scores. -/
theorem top_col (j : Fin 2048) : V m c main_call0_v22 (ix2 j 0) = cam m c (top (cam m c) j) := by
  unfold V V0
  rw [show List.flatten [hostOps0 (F := Ideal)] = hostOps0 from rfl]
  after_reads_at
  exact (top_read _ (cam m c) (fun _ => rfl) j).1

/-- The row of their positions. -/
theorem top_row_at (j : Fin 2048) : V m c main_call0_v23 (ix2 0 j) = BitVec.ofNat 32 (top (cam m c) j).val := by
  unfold V V0
  rw [show List.flatten [hostOps0 (F := Ideal)] = hostOps0 from rfl]
  after_reads_at
  exact (top_read _ (cam m c) (fun _ => rfl) j).2

/-- The column of their positions. -/
theorem top_col_at (j : Fin 2048) : V m c main_call0_v24 (ix2 j 0) = BitVec.ofNat 32 (top (cam m c) j).val := by
  unfold V V0
  rw [show List.flatten [hostOps0 (F := Ideal)] = hostOps0 from rfl]
  after_reads_at
  exact (top_read _ (cam m c) (fun _ => rfl) j).2

/-- The mask at those positions. -/
theorem top_mask (j : Fin 2048) : V m c main_call0_v25 (ix2 j 0) = mask m c (top (cam m c) j) := by
  unfold V V0
  rw [show List.flatten [hostOps0 (F := Ideal)] = hostOps0 from rfl]
  after_reads_at
  exact take_read _ _ j _ (top_read _ (cam m c) (fun _ => rfl) j).2

/-- The row of the lowest scores. -/
theorem bot_row (j : Fin 2048) : V m c main_call0_v26 (ix2 0 j) = cam m c (bot (cam m c) j) := by
  unfold V V0
  rw [show List.flatten [hostOps0 (F := Ideal)] = hostOps0 from rfl]
  after_reads_at
  exact (congrArg (fun a : EReal => -a) (bot_read _ (cam m c) (fun _ => rfl) j).1).trans (neg_neg _)

/-- The column of the lowest scores. -/
theorem bot_col (j : Fin 2048) : V m c main_call0_v27 (ix2 j 0) = cam m c (bot (cam m c) j) := by
  unfold V V0
  rw [show List.flatten [hostOps0 (F := Ideal)] = hostOps0 from rfl]
  after_reads_at
  exact (congrArg (fun a : EReal => -a) (bot_read _ (cam m c) (fun _ => rfl) j).1).trans (neg_neg _)

/-- The row of their positions. -/
theorem bot_row_at (j : Fin 2048) : V m c main_call0_v28 (ix2 0 j) = BitVec.ofNat 32 (bot (cam m c) j).val := by
  unfold V V0
  rw [show List.flatten [hostOps0 (F := Ideal)] = hostOps0 from rfl]
  after_reads_at
  exact (bot_read _ (cam m c) (fun _ => rfl) j).2

/-- The column of their positions. -/
theorem bot_col_at (j : Fin 2048) : V m c main_call0_v29 (ix2 j 0) = BitVec.ofNat 32 (bot (cam m c) j).val := by
  unfold V V0
  rw [show List.flatten [hostOps0 (F := Ideal)] = hostOps0 from rfl]
  after_reads_at
  exact (bot_read _ (cam m c) (fun _ => rfl) j).2

/-- One minus the mask at those positions. -/
theorem bot_mask (j : Fin 2048) : V m c main_call0_v30 (ix2 j 0) = (1 : EReal) - mask m c (bot (cam m c) j) := by
  unfold V V0
  rw [show List.flatten [hostOps0 (F := Ideal)] = hostOps0 from rfl]
  after_reads_at
  refine (take_read _ _ j _ (bot_read _ (cam m c) (fun _ => rfl) j).2).trans ?_
  pointwise
  rfl

/-- The table of sizes that the kernel returns. -/
theorem sizes_read : V m c main_v0_2 = fun i => lit1 (S200.rowMajor i) := by
  unfold V V0
  rw [show List.flatten [hostOps0 (F := Ideal)] = hostOps0 from rfl]
  after_reads_simp
  rfl

end Cert.Proof.KernelHost
-- ==== Proof.KernelValue.lean ====
/-
  The kernel's two tables of scores are the mathematical ones.
-/
module

public import proofs.«01_k».proof.Proof.KernelHost
public import proofs.«01_k».proof.Proof.Tables

@[expose] public section

set_option maxRecDepth 16384

noncomputable section

namespace Cert.Proof.KernelValue

open Cert.KernelIdeal Cert.KernelIdeal.Gen Idealize.ShloMosaic Cert.Proof.Pixels Cert.Proof.Tables Cert.Proof.Ranks
open Cert.Proof.Pay Cert.Proof.KernelBody Cert.Proof.KernelRun Cert.Proof.KernelHost
open Idealize.ShloMosaic.TcCoe

variable (m : (ℓ : Loc nD τ sig) → Buf (Elt Ideal) ℓ) (c : Dev nD)

/-- Positions compare as the words that hold them do. -/
theorem pos_lt (p q : Fin 262144) : (BitVec.ofNat 32 p.val).toInt < (BitVec.ofNat 32 q.val).toInt ↔ p < q := by
  have hp := p.isLt
  have hq := q.isLt
  rw [Sorts.toInt_small _ (by omega), Sorts.toInt_small _ (by omega), Fin.lt_def]
  omega

/-- The kernel's count for a pixel of the first list is its rank among the listed ones, from the highest score down. -/
theorem above_eq (j : Fin 2048) : above (V m c main_call0_v21) (V m c main_call0_v22) (V m c main_call0_v23) (V m c main_call0_v24) (ix2 j 0)
    = ((listRank (after (cam m c)) (top (cam m c)) j : ℝ) : EReal) := by
  unfold above listRank
  rw [← sum_ones]
  refine Finset.sum_congr rfl fun q _ => if_congr ?_ rfl rfl
  rw [top_row, top_col, top_row_at, top_col_at, pos_lt]
  exact or_congr Iff.rfl (and_congr_left' eq_comm)

/-- The kernel's count for a pixel of the second list is its rank among the listed ones, from the lowest score up. -/
theorem below_eq (j : Fin 2048) : below (V m c main_call0_v26) (V m c main_call0_v27) (V m c main_call0_v28) (V m c main_call0_v29) (ix2 j 0)
    = ((listRank (before (cam m c)) (bot (cam m c)) j : ℝ) : EReal) := by
  unfold below listRank
  rw [← sum_ones]
  refine Finset.sum_congr rfl fun q _ => if_congr ?_ rfl rfl
  rw [bot_row, bot_col, bot_row_at, bot_col_at, pos_lt]
  rfl

/-- The first table of scores, past a gap. -/
theorem first_eq (hgap : Gap (cam m c)) (k : Fin 200) : first m c (ix1 k) = share (after (cam m c)) (mask m c) k := by
  show score _ _ _ k = _
  unfold score
  rw [percent_read, Finset.sum_congr rfl fun j _ => congrArg₂ (fun a b : EReal => (if a < _ then (1 : EReal) else 0) * b) (above_eq m c j) (top_mask m c j)]
  exact share_of_list (before_strict _).swap _ (top_injective _) (top_all _ hgap) _ k

/-- The second table of scores. -/
theorem second_eq (k : Fin 200) : second m c (ix1 k) = share (before (cam m c)) (fun p => 1 - mask m c p) k := by
  show score _ _ _ k = _
  unfold score
  rw [percent_read, Finset.sum_congr rfl fun j _ => congrArg₂ (fun a b : EReal => (if a < _ then (1 : EReal) else 0) * b) (below_eq m c j) (bot_mask m c j)]
  exact share_of_list (before_strict _) _ (bot_injective _) (bot_all _) (fun p => 1 - mask m c p) k

end Cert.Proof.KernelValue

end
-- ==== Proof.RefEntry.lean ====
/-
  What the reference's loop starts from, in terms of the two images: each pixel's rank in the order of the scores, the
  mask, one minus the mask and the table of sizes.
-/
module

public import proofs.«01_k».proof.Proof.RefRun
public import proofs.«01_k».proof.Proof.Sorts
public import proofs.«01_k».proof.Proof.Pixels
public import proofs.«01_k».proof.Proof.Ranks
public import Idealize.ShloMosaic.Lib.StableHlo.ReadAt
public import proofs.«01_k».proof.Proof.Constants
public import Idealize.ShloMosaic.Lib.Routing.OpsPair

@[expose] public section

set_option maxRecDepth 16384

noncomputable section

namespace Cert.Proof.RefEntry

open Cert.ReferenceIdeal Cert.ReferenceIdeal.Gen Cert.ReferenceIdeal.Value Idealize.ShloMosaic Cert.Proof.Pixels Cert.Proof.Ranks
open Idealize.ShloMosaic.TcCoe Idealize.ShloMosaic.StableHlo

variable (m : (ℓ : Loc nD τ sig) → Buf (Elt Ideal) ℓ) (c : Dev nD)

/-- The scores of a device's pixels. -/
def cam (c : Dev nD) : Fin 262144 → EReal := flat (m ((c.tc : Thread nD τ).loc main_arg0))

/-- The mask values of a device's pixels. -/
def mask (c : Dev nD) : Fin 262144 → EReal := flat (m ((c.tc : Thread nD τ).loc main_arg1))

/-- An extended real is replaced by zero where it equals zero, which changes nothing. -/
theorem zero_kept (a : EReal) : Scalar.select (BitVec.ofBool (decide (a = Ideal.ofBits .f32 0x00000000#32))) (Ideal.ofBits .f32 0x00000000#32) a = a := by
  by_cases h : a = Ideal.ofBits .f32 0x00000000#32
  · rw [decide_eq_true h]; exact h.symm
  · rw [decide_eq_false h]; rfl

/-- No extended real differs from itself, so none is replaced. -/
theorem self_kept (b a : EReal) : Scalar.select (BitVec.ofBool (decide (a ≠ a))) b a = a := by
  rw [decide_eq_false (fun h => h rfl)]; rfl

/-- The sort's comparison is "less" of the two scores. -/
theorem less (l r : EReal × BitVec 32) :
    (comparator_f32_i32_d0 (F := Ideal) l r == 1#1) = decide (l.1 < r.1) := by
  have e : comparator_f32_i32_d0 (F := Ideal) l r = BitVec.ofBool (decide (l.1 < r.1)) := by
    have h : comparator_f32_i32_d0 (F := Ideal) l r = BitVec.ofBool (decide
      (Scalar.select (BitVec.ofBool (decide (l.1 ≠ l.1))) (Ideal.ofBits .f32 0x7FC00000#32)
          (Scalar.select (BitVec.ofBool (decide (l.1 = Ideal.ofBits .f32 0x00000000#32))) (Ideal.ofBits .f32 0x00000000#32) l.1)
        < Scalar.select (BitVec.ofBool (decide (r.1 ≠ r.1))) (Ideal.ofBits .f32 0x7FC00000#32)
          (Scalar.select (BitVec.ofBool (decide (r.1 = Ideal.ofBits .f32 0x00000000#32))) (Ideal.ofBits .f32 0x00000000#32) r.1))) := rfl
    rw [h, zero_kept, zero_kept, self_kept, self_kept]
  rw [e]
  cases decide (l.1 < r.1) <;> rfl

/-- Scattering 0, 1, 2, … along the order of the scores leaves each pixel's rank. -/
theorem ranks_read (x : FVec Ideal S262144 .f32) (y : Fin 262144 → EReal) (hx : ∀ p, x (ix1 p) = y p) (p : Fin 262144) :
    Host.scatter scatter_S262144_S262144x1_S262144_n_0_0_1 (fun _ b => b)
      (broadcastInDim S262144 ![] bcast_S_S262144 (constantI S_ 32 0#32))
      (broadcastInDim S262144x1 ![0] bcast_S262144_S262144x1_0
        (select
          (cmpi .slt (Host.sort2 S262144 0 (comparator_f32_i32_d0 (F := Ideal)) x (iotaInDim S262144 32 0)).2
            (broadcastInDim S262144 ![] bcast_S_S262144 (constantI S_ 32 0#32)))
          (addi (Host.sort2 S262144 0 (comparator_f32_i32_d0 (F := Ideal)) x (iotaInDim S262144 32 0)).2
            (broadcastInDim S262144 ![] bcast_S_S262144 (constantI S_ 32 262144#32)))
          (Host.sort2 S262144 0 (comparator_f32_i32_d0 (F := Ideal)) x (iotaInDim S262144 32 0)).2))
      (iotaInDim S262144 32 0) (ix1 p) = BitVec.ofNat 32 (rank (before y) p) := by
  have hs : ∀ r : Fin 262144, (Host.sort2 S262144 0 (comparator_f32_i32_d0 (F := Ideal)) x (iotaInDim S262144 32 0)).2 (ix1 r)
      = BitVec.ofNat 32 (asc y r).val := by
    intro r
    simp only [ix1_eq_valueIdx] at hx ⊢
    have h := (Sorts.sort2_read (n := 262144) (comparator_f32_i32_d0 (F := Ideal)) x (iotaInDim S262144 32 0)
      (fun p q => decide (y p < y q)) (fun a b => by rw [less, hx, hx]) r).2
    exact h
  generalize (Host.sort2 S262144 0 (comparator_f32_i32_d0 (F := Ideal)) x (iotaInDim S262144 32 0)).2 = o at hs ⊢
  have hi : ∀ r : Fin 262144, broadcastInDim S262144x1 ![0] bcast_S262144_S262144x1_0
      (select (cmpi .slt o (broadcastInDim S262144 ![] bcast_S_S262144 (constantI S_ 32 0#32)))
        (addi o (broadcastInDim S262144 ![] bcast_S_S262144 (constantI S_ 32 262144#32))) o) (ix2 r 0)
      = BitVec.ofNat 32 (asc y r).val := by
    intro r
    pointwise
    have hp := (asc y r).isLt
    rw [hs]
    exact Routing.wrap_of_lt _ _ (by rw [BitVec.toNat_ofNat]; omega)
  generalize broadcastInDim S262144x1 ![0] bcast_S262144_S262144x1_0
      (select (cmpi .slt o (broadcastInDim S262144 ![] bcast_S_S262144 (constantI S_ 32 0#32)))
        (addi o (broadcastInDim S262144 ![] bcast_S_S262144 (constantI S_ 32 262144#32))) o) = idx at hi ⊢
  have hn : ∀ r : Fin 262144, (idx (ix2 r 0)).toInt = ((asc y r).val : ℤ) := fun r => by
    have hp := (asc y r).isLt
    rw [hi]; exact Sorts.toInt_small _ (by omega)
  have hr : ∀ r, rank (before y) (asc y r) = r.val := fun r => rank_sorted (fun _ _ => decide_eq_true_iff) r
  have ho : ∃ r, asc y r = p := sortedFrom_surjective _ p
  rw [ix1_eq_valueIdx]
  simp only [ix2_eq_valueIdx] at hn
  refine (Routing.scatter_set_signed (N := 262144) scatter_S262144_S262144x1_S262144_n_0_0_1 rfl rfl rfl _ idx _ p _ ?_).1 ?_
  · intro i h
    have e : asc y i = p := Fin.ext (by have := (hn i).symm.trans h; omega)
    rw [← e, hr i]
    rfl
  · obtain ⟨r, e⟩ := ho
    exact ⟨r, by rw [← e]; exact hn r⟩

/-- The mask, pixel by pixel. -/
theorem entry_mask (p : Fin 262144) : entryContents preI m c (Proc.devRef .tc main_v16_2) (ix1 p) = mask m c p := by
  simp only [entryContents, afterL_cons, afterL_nil]
  after_reads_at
  rfl

/-- One minus the mask, pixel by pixel. -/
theorem entry_rest (p : Fin 262144) : entryContents preI m c (Proc.devRef .tc main_v16_3) (ix1 p) = (1 : EReal) - mask m c p := by
  simp only [entryContents, afterL_cons, afterL_nil]
  after_reads_at
  rw [id]
  pointwise
  rw [show (1 : EReal) = Ideal.ofBits .f32 1065353216#32 from Ideal.ofBits_one_f32.symm]
  rfl

/-- Each pixel's rank in the order of the scores, as a word. -/
theorem entry_ranks (p : Fin 262144) : entryContents preI m c (Proc.devRef .tc main_v16_1) (ix1 p) = BitVec.ofNat 32 (rank (before (cam m c)) p) := by
  simp only [entryContents, afterL_cons, afterL_nil]
  after_reads_at
  rw [id, ranks_read _ (cam m c) ?_ p]
  exact fun _ => rfl

/-- The table of sizes the loop reads. -/
theorem entry_sizes : entryContents preI m c (Proc.devRef .tc main_v16_0) = fun i => lit0 (S200.rowMajor i) := by
  simp only [entryContents, afterL_cons, afterL_nil]
  after_reads_simp
  rfl

/-- The table of sizes that is the third result. -/
theorem entry_result : entryContents preI m c (Proc.devRef .tc main_c_0) = fun i => lit1 (S200.rowMajor i) := by
  simp only [entryContents, afterL_cons, afterL_nil]
  after_reads_simp
  rfl

end Cert.Proof.RefEntry

end
-- ==== Proof.RefValue.lean ====
/-
  One trip of the reference's loop on its carried arrays, and the two tables after 200 trips: each entry is the score
  of its size.
-/
module

public import proofs.«01_k».proof.Proof.RefEntry
public import proofs.«01_k».proof.Proof.Tables
public import proofs.«01_k».proof.Proof.Pay
public import Idealize.ShloMosaic.Lib.DynamicIndex

@[expose] public section

set_option maxRecDepth 16384

noncomputable section

namespace Cert.Proof.RefValue

open Cert.ReferenceIdeal Cert.ReferenceIdeal.Gen Cert.ReferenceIdeal.Value Idealize.ShloMosaic Cert.Proof.Pixels Cert.Proof.Ranks
open Cert.Proof.Tables Cert.Proof.RefEntry
open Idealize.ShloMosaic.TcCoe Idealize.ShloMosaic.StableHlo

/-- The loop's arrays at trip `k`: the table of sizes, the ranks, the weights, and the counter. -/
structure At (x w : Fin 262144 → EReal) (k : ℕ) (V0 : Valuation τ sig (Elt Ideal)) : Prop where
  sizes : V0 (Proc.devRef .tc main_v16_0) = fun i => lit0 (S200.rowMajor i)
  ranks : ∀ p, V0 (Proc.devRef .tc main_v16_1) (ix1 p) = BitVec.ofNat 32 (rank (before x) p)
  mask : ∀ p, V0 (Proc.devRef .tc main_v16_2) (ix1 p) = w p
  rest : ∀ p, V0 (Proc.devRef .tc main_v16_3) (ix1 p) = (1 : EReal) - w p
  count : V0 (Proc.devRef .tc main_v16_4) = fun _ => BitVec.ofNat 32 k

variable {x w : Fin 262144 → EReal} {V0 : Valuation τ sig (Elt Ideal)}

/-- The size read at trip `k`. -/
theorem size_read (k : Fin 200) (h : At x w k V0) (i : S_.Idx) : res_main_while0b_v17 V0 i = BitVec.ofNat 32 (size k) := by
  unfold res_main_while0b_v17
  rw [h.sizes, h.count, Host.dynamicSlice_eq_extractStridedSlice S1 _ _ ![k.val] _ (by
    refine ⟨rfl, fun a => ?_⟩
    match a with
    | ⟨0, _⟩ => exact k.isLt) (fun a => by
    match a with
    | ⟨0, _⟩ => exact Sorts.toInt_small _ (by omega))]
  pointwise
  rw [show S200.rowMajor (ix1 k) = k from Fin.ext (Shape.rowMajor_val_one _)]
  exact Constants.size k

/-- "At least" of two small numbers as words. -/
theorem sge_read (r z : ℕ) (hr : r < 262144) (hz : z ≤ 2000) :
    IntOp.cmpi .sge (BitVec.ofNat 32 r) (IntOp.subi (262144#32) (BitVec.ofNat 32 z)) = BitVec.ofBool (decide (262144 - z ≤ r)) := by
  have e : IntOp.subi (262144#32) (BitVec.ofNat 32 z) = BitVec.ofNat 32 (262144 - z) := by
    apply BitVec.eq_of_toNat_eq
    show (262144#32 - BitVec.ofNat 32 z).toNat = _
    rw [BitVec.toNat_sub, BitVec.toNat_ofNat, BitVec.toNat_ofNat, BitVec.toNat_ofNat]
    omega
  rw [e]
  refine congrArg BitVec.ofBool ?_
  show (BitVec.ofNat 32 (262144 - z)).sle (BitVec.ofNat 32 r) = _
  rw [BitVec.sle, Sorts.toInt_small _ (by omega), Sorts.toInt_small _ (by omega), decide_eq_decide]
  omega

/-- "Less" of two small numbers as words. -/
theorem slt_read (r z : ℕ) (hr : r < 262144) (hz : z ≤ 2000) :
    IntOp.cmpi .slt (BitVec.ofNat 32 r) (BitVec.ofNat 32 z) = BitVec.ofBool (decide (r < z)) := by
  refine congrArg BitVec.ofBool ?_
  show (BitVec.ofNat 32 r).slt (BitVec.ofNat 32 z) = _
  rw [BitVec.slt, Sorts.toInt_small _ (by omega), Sorts.toInt_small _ (by omega), decide_eq_decide]
  omega

/-- A rank counted from the front is past all but `z` exactly when the rank counted from the back is below `z`. -/
theorem last_iff (p : Fin 262144) (z : ℕ) (hz : z ≤ 2000) :
    262144 - z ≤ rank (before x) p ↔ rank (after x) p < z := by
  have h : rank (before x) p + rank (after x) p + 1 = 262144 := rank_add_swap (before_strict x) p
  omega

/-- The foreground's holder: one at the pixels whose rank from the back is below the size. -/
theorem holds_top (k : Fin 200) (h : At x w k V0) (p : Fin 262144) :
    res_main_while0b_v21 V0 (ix1 p) = if rank (after x) p < size k then (1 : EReal) else 0 := by
  have hz := size_le k
  unfold res_main_while0b_v21
  pointwise
  rw [size_read k h, h.ranks, sge_read _ _ (rank_lt_n (before_strict x) p) hz, Pay.bit_unsigned]
  simp only [decide_eq_true_eq, last_iff p _ hz]

/-- The background's holder: one at the pixels whose rank is below the size. -/
theorem holds_bot (k : Fin 200) (h : At x w k V0) (p : Fin 262144) :
    res_main_while0b_v24 V0 (ix1 p) = if rank (before x) p < size k then (1 : EReal) else 0 := by
  have hz := size_le k
  unfold res_main_while0b_v24
  pointwise
  rw [size_read k h, h.ranks, slt_read _ _ (rank_lt_n (before_strict x) p) hz, Pay.bit_unsigned]
  simp only [decide_eq_true_eq]

/-- No pixel is in both holders, so their sum is nowhere two. -/
theorem never_two (k : Fin 200) (h : At x w k V0) (p : Fin 262144) :
    ¬ res_main_while0b_v25 V0 (ix1 p) = Ideal.ofBits .f32 0x40000000#32 := by
  have hz := size_le k
  have hs : rank (before x) p + rank (after x) p + 1 = 262144 := rank_add_swap (before_strict x) p
  have e : ∀ a b : EReal, res_main_while0b_v21 V0 (ix1 p) = a → res_main_while0b_v24 V0 (ix1 p) = b →
      res_main_while0b_v25 V0 (ix1 p) = a + b := fun a b ha hb => congrArg₂ (fun a b : EReal => a + b) ha hb
  have two : Ideal.ofBits .f32 0x40000000#32 = (((2 : ℕ) : ℝ) : EReal) := Constants.ofBits_nat _ 2 (by decide)
  rw [e _ _ (holds_top k h p) (holds_bot k h p)]
  rw [two]
  intro hh
  by_cases h1 : rank (after x) p < size k
  · rw [if_pos h1, if_neg (by omega), add_zero] at hh
    have : (1 : ℝ) = ((2 : ℕ) : ℝ) := EReal.coe_injective hh
    norm_num at this
  · rw [if_neg h1, zero_add] at hh
    split at hh
    · have : (1 : ℝ) = ((2 : ℕ) : ℝ) := EReal.coe_injective hh
      norm_num at this
    · have : (0 : ℝ) = ((2 : ℕ) : ℝ) := EReal.coe_injective hh
      norm_num at this

/-- The foreground's holder as it is used: the select on the sum leaves it alone. -/
theorem kept_top (k : Fin 200) (h : At x w k V0) (p : Fin 262144) :
    res_main_while0b_v28 V0 (ix1 p) = if rank (after x) p < size k then (1 : EReal) else 0 := by
  rw [← holds_top k h p]
  unfold res_main_while0b_v28
  pointwise
  exact if_neg (never_two k h p)

/-- The same of the background's holder. -/
theorem kept_bot (k : Fin 200) (h : At x w k V0) (p : Fin 262144) :
    res_main_while0b_v31 V0 (ix1 p) = if rank (before x) p < size k then (1 : EReal) else 0 := by
  rw [← holds_bot k h p]
  unfold res_main_while0b_v31
  pointwise
  exact if_neg (never_two k h p)

/-- Writing one entry of a table. -/
theorem set_read {α : Type} (x : S200.Idx → α) (u : S1.Idx → α) (start : Fin S200.rank → ℤ) (h : S200.Slices (fun _ => 0) S1)
    (k i : Fin 200) (hs : ∀ a, start a = (k.val : ℤ)) :
    Host.dynamicUpdateSlice x u start h (ix1 i) = if i = k then u (ix1 0) else x (ix1 i) := by
  have hc : ∀ a, Host.clampedStart S200 S1 h.1 start a = k.val := fun a => Host.clampedStart_of_le h.1 start a k.val (hs a) (by
    match a with
    | ⟨0, _⟩ => exact k.isLt)
  rw [Host.dynamicUpdateSlice_apply]
  by_cases e : i = k
  · subst e
    rw [dif_pos (fun a => by
      rw [hc a]
      match a with
      | ⟨0, _⟩ => exact ⟨le_refl _, Nat.lt_succ_self _⟩), if_pos rfl]
    refine congrArg u (funext fun a => ?_)
    match a with
    | ⟨0, _⟩ => exact Subsingleton.elim (α := Fin 1) _ _
  · rw [dif_neg, if_neg e]
    intro hh
    obtain ⟨h1, h2⟩ := hh ⟨0, Nat.zero_lt_one⟩
    rw [hc] at h1 h2
    have h1' : k.val ≤ i.val := h1
    have h2' : i.val < k.val + 1 := h2
    exact e (Fin.ext (by omega))

/-- The score one trip computes from a holder and the weights. -/
theorem share_read (r : Fin 262144 → Fin 262144 → Prop) [DecidableRel r] (hr : Strict r) (k : Fin 200) (w : Fin 262144 → EReal)
    (v u : FVec Ideal S262144 .f32) (hv : ∀ p, v (ix1 p) = if rank r p < size k then (1 : EReal) else 0) (hu : ∀ p, u (ix1 p) = w p) :
    broadcastInDim S1 ![] bcast_S_S1 (Host.divf (mulf (constant S_ .f32 0x42C80000#32)
      (Host.reduceAdd (mulf v u) (constant S_ .f32 0x00000000#32) reducesTo_S262144_S_d0 h_S_))
      (Host.reduceAdd v (constant S_ .f32 0x00000000#32) reducesTo_S262144_S_d0 h_S_)) (ix1 0) = share r w k := by
  have hz := size_le k
  pointwise
  rw [Finset.sum_congr rfl fun p _ => (congrArg₂ (· * ·) (hv p) (hu p)).trans (truth_mul _ _), Finset.sum_congr rfl fun p _ => hv p,
    sum_ones, card_rank_lt hr (by omega)]
  rfl

/-- One trip's entry of the first table. -/
theorem step_first (k : Fin 200) (h : At x w k V0) (i : Fin 200) :
    step_main_v16_5 V0 (ix1 i) = if i = k then share (after x) w k else V0 (Proc.devRef .tc main_v16_5) (ix1 i) := by
  unfold step_main_v16_5
  rw [id, set_read _ _ _ _ k i (fun a => by
    match a with
    | ⟨0, _⟩ => rw [h.count]; exact Sorts.toInt_small _ (by omega))]
  rw [share_read (after x) (before_strict x).swap k w _ _ (kept_top k h) h.mask]

/-- One trip's entry of the second table. -/
theorem step_second (k : Fin 200) (h : At x w k V0) (i : Fin 200) :
    step_main_v16_6 V0 (ix1 i) = if i = k then share (before x) (fun p => 1 - w p) k else V0 (Proc.devRef .tc main_v16_6) (ix1 i) := by
  unfold step_main_v16_6
  rw [id, set_read _ _ _ _ k i (fun a => by
    match a with
    | ⟨0, _⟩ => rw [h.count]; exact Sorts.toInt_small _ (by omega))]
  rw [share_read (before x) (before_strict x) k (fun p => 1 - w p) _ _ (kept_bot k h) h.rest]

/-- One trip moves the arrays from trip `k` to trip `k + 1`. -/
theorem step_at (k : ℕ) (h : At x w k V0) : At x w (k + 1) (STEP V0) where
  sizes := (STEP_main_v16_0 V0).trans h.sizes
  ranks p := (congrFun (STEP_main_v16_1 V0) (ix1 p)).trans (h.ranks p)
  mask p := (congrFun (STEP_main_v16_2 V0) (ix1 p)).trans (h.mask p)
  rest p := (congrFun (STEP_main_v16_3 V0) (ix1 p)).trans (h.rest p)
  count := by
    rw [STEP_main_v16_4]
    unfold step_main_v16_4
    rw [h.count]
    funext i
    show BitVec.ofNat 32 k + 1#32 = _
    rw [← BitVec.ofNat_add]

/-- After `k` trips the first `k` entries of the two tables are the scores of their sizes. -/
theorem after_trips (h : At x w 0 V0) (k : ℕ) (hk : k ≤ 200) : At x w k (STEP^[k] V0)
    ∧ (∀ i : Fin 200, i.val < k → STEP^[k] V0 (Proc.devRef .tc main_v16_5) (ix1 i) = share (after x) w i)
    ∧ (∀ i : Fin 200, i.val < k → STEP^[k] V0 (Proc.devRef .tc main_v16_6) (ix1 i) = share (before x) (fun p => 1 - w p) i) := by
  induction k with
  | zero => exact ⟨h, fun i hi => absurd hi (Nat.not_lt_zero _), fun i hi => absurd hi (Nat.not_lt_zero _)⟩
  | succ k ih =>
    obtain ⟨ha, h5, h6⟩ := ih (by omega)
    rw [Function.iterate_succ_apply']
    refine ⟨step_at k ha, fun i hi => ?_, fun i hi => ?_⟩
    · rw [STEP_main_v16_5, step_first ⟨k, hk⟩ ha i]
      by_cases e : i = ⟨k, hk⟩
      · rw [if_pos e, e]
      · rw [if_neg e]
        exact h5 i (by have : i.val ≠ k := fun q => e (Fin.ext q); omega)
    · rw [STEP_main_v16_6, step_second ⟨k, hk⟩ ha i]
      by_cases e : i = ⟨k, hk⟩
      · rw [if_pos e, e]
      · rw [if_neg e]
        exact h6 i (by have : i.val ≠ k := fun q => e (Fin.ext q); omega)

variable (m : (ℓ : Loc nD τ sig) → Buf (Elt Ideal) ℓ) (c : Dev nD)

/-- The loop starts at trip zero. -/
theorem entry_at : At (cam m c) (RefEntry.mask m c) 0 (entryContents preI m c) where
  sizes := entry_sizes m c
  ranks := entry_ranks m c
  mask := entry_mask m c
  rest := entry_rest m c
  count := ctr_entry m c

/-- The reference's first result. -/
theorem first_eq (k : Fin 200) : RefRun.final m c (Proc.devRef .tc main_v16_5) (ix1 k) = share (after (cam m c)) (RefEntry.mask m c) k := by
  rw [RefRun.final_carried m c main_v16_5 (by decide)]
  exact (after_trips (entry_at m c) 200 (le_refl _)).2.1 k k.isLt

/-- The reference's second result. -/
theorem second_eq (k : Fin 200) :
    RefRun.final m c (Proc.devRef .tc main_v16_6) (ix1 k) = share (before (cam m c)) (fun p => 1 - RefEntry.mask m c p) k := by
  rw [RefRun.final_carried m c main_v16_6 (by decide)]
  exact (after_trips (entry_at m c) 200 (le_refl _)).2.2 k k.isLt

/-- The reference's third result. -/
theorem sizes_eq : RefRun.final m c (Proc.devRef .tc main_c_0) = fun i => lit1 (S200.rowMajor i) :=
  (RefRun.final_keep m c main_c_0 (by decide +kernel)).trans (entry_result m c)

end Cert.Proof.RefValue

end
-- ==== Proof.Values.lean ====
/-
  The two programs' results are the same three tables.
-/
module

public import proofs.«01_k».proof.Proof.KernelValue
public import proofs.«01_k».proof.Proof.RefValue
public import proofs.«01_k».proof.Proof.Border

@[expose] public section

set_option maxRecDepth 16384

noncomputable section

namespace Cert.Proof.Values

open Idealize.ShloMosaic Idealize.SL.Sem Idealize.ShloMosaic.TcCoe Cert.Proof.Pixels Cert.Proof.Tables

/-- Tables of 200 entries that agree at every place are the same. -/
theorem table_ext (f g : FVec Ideal (⟨1, ![200]⟩ : Shape) .f32) (h : ∀ k : Fin 200, f (ix1 k) = g (ix1 k)) : f = g :=
  funext fun i => by rw [eq_ix1 i]; exact h _

/-- Under the precondition both programs run, and they end with the same scores and the same sizes. -/
theorem algebraic : Cert.algebraic_KernelIdeal_ReferenceIdeal_pre_top_border_distinct (hKernelIdeal := Cert.KernelIdeal.Gen.facts)
    (hReferenceIdeal := Cert.ReferenceIdeal.Gen.facts) (hPre_top_border_distinct := Border.facts) := by
  intro m g m' g' hpre hargs
  have hcam : ∀ c, RefEntry.cam m' c = KernelHost.cam m c := fun c => congrArg flat (hargs c).1
  have hmask : ∀ c, RefEntry.mask m' c = KernelHost.mask m c := fun c => congrArg flat (hargs c).2
  have hgap : ∀ c, Gap (KernelHost.cam m c) := fun c => @Border.gap_of_pre Border.facts _ _ (hpre c)
  refine ⟨fun c => KernelRun.first m c, fun c => KernelRun.second m c, fun c => KernelIdeal.Gen.V m c KernelIdeal.main_v0_2,
    KernelRun.run m g, (θ_run _ _ _).mono (fun r h c => ⟨?_, ?_, ?_, ?_, ?_⟩) (ReferenceIdeal.Value.run_fold m' g')⟩
  · refine (h c ReferenceIdeal.main_v16_5 rfl).trans (table_ext _ _ fun k => ?_)
    have e := RefValue.first_eq m' c k
    rw [hcam, hmask] at e
    exact e.trans (KernelValue.first_eq m c (hgap c) k).symm
  · refine (h c ReferenceIdeal.main_v16_6 rfl).trans (table_ext _ _ fun k => ?_)
    have e := RefValue.second_eq m' c k
    rw [hcam, hmask] at e
    exact e.trans (KernelValue.second_eq m c k).symm
  · refine (h c ReferenceIdeal.main_c_0 rfl).trans ((RefValue.sizes_eq m' c).trans (Eq.trans ?_ (KernelHost.sizes_read m c).symm))
    exact funext fun i => (Constants.sizes_eq _).symm
  · exact ((h c ReferenceIdeal.main_arg0 rfl).trans (RefRun.final_keep m' c ReferenceIdeal.main_arg0 (by decide +kernel))).trans
      (RefRun.entry_keep m' c ReferenceIdeal.main_arg0 (by decide +kernel))
  · exact ((h c ReferenceIdeal.main_arg1 rfl).trans (RefRun.final_keep m' c ReferenceIdeal.main_arg1 (by decide +kernel))).trans
      (RefRun.entry_keep m' c ReferenceIdeal.main_arg1 (by decide +kernel))

end Cert.Proof.Values

end
-- ==== Proof.lean ====
/-
  The proof of the certificate's claims: every program runs with its arguments unchanged and every semaphore counter at
  zero, the idealized kernel is the kernel, and kernel and reference agree over exact arithmetic where the 2000th
  highest score is above the 2049th.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import proofs.«01_k».proof.Proof.Border
public import proofs.«01_k».proof.Proof.Values
public import Idealize.ShloMosaic.Adequacy
public import Idealize.ShloMosaic.Init

@[expose] public section

noncomputable section

namespace Cert.Proof

open Idealize.ShloMosaic Idealize.SL.Sem Cert.Kernel

/-- The certificate's claims. -/
theorem claim : Cert.Claim := ⟨Cert.Kernel.Gen.facts, Cert.KernelIdeal.Gen.facts, Cert.ReferenceIdeal.Gen.facts,
  Cert.Proof.Border.facts,
  fun m ρ _ => Cert.Kernel.Gen.frame m ρ,
  fun m ρ _ => Cert.KernelIdeal.Gen.frame m ρ, fun m ρ _ => Cert.KernelIdeal.Gen.frame m ρ,
  fun m ρ _ => Cert.Proof.RefRun.frame m ρ, fun m ρ _ => Cert.Proof.RefRun.frame m ρ,
  trivial, Cert.Proof.Values.algebraic⟩

end Cert.Proof

end
